-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clip_idle_KernelIdeal [hPre_clip_idle_KernelIdeal : Cert.Pre_clip_idle_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_clip_idle_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clip_idle_ReferenceIdeal [hPre_clip_idle_ReferenceIdeal : Cert.Pre_clip_idle_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clip_idle_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clip_idle_KernelIdeal [hKernelIdeal : Cert.KernelIdeal.Facts] [hPre_clip_idle_KernelIdeal : Cert.Pre_clip_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clip_idle_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clip_idle_ReferenceIdeal [hReferenceIdeal : Cert.ReferenceIdeal.Facts] [hPre_clip_idle_ReferenceIdeal : Cert.Pre_clip_idle_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clip_idle_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_clip_idle_KernelIdeal [hKernelIdeal : Cert.KernelIdeal.Facts] [hReferenceIdeal : Cert.ReferenceIdeal.Facts] [hPre_clip_idle_KernelIdeal : Cert.Pre_clip_idle_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clip_idle_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clip_idle_KernelIdeal : Cert.Pre_clip_idle_KernelIdeal.Facts) (hPre_clip_idle_ReferenceIdeal : Cert.Pre_clip_idle_ReferenceIdeal.Facts),
    quiescent_Kernel (hKernel := hKernel)
    ∧ quiescent_KernelIdeal (hKernelIdeal := hKernelIdeal)
    ∧ quiescent_KernelIdeal_pre_clip_idle_KernelIdeal (hKernelIdeal := hKernelIdeal) (hPre_clip_idle_KernelIdeal := hPre_clip_idle_KernelIdeal)
    ∧ quiescent_ReferenceIdeal (hReferenceIdeal := hReferenceIdeal)
    ∧ quiescent_ReferenceIdeal_pre_clip_idle_ReferenceIdeal (hReferenceIdeal := hReferenceIdeal) (hPre_clip_idle_ReferenceIdeal := hPre_clip_idle_ReferenceIdeal)
    ∧ preserves_Kernel_KernelIdeal
    ∧ algebraic_KernelIdeal_ReferenceIdeal_pre_clip_idle_KernelIdeal (hKernelIdeal := hKernelIdeal) (hReferenceIdeal := hReferenceIdeal) (hPre_clip_idle_KernelIdeal := hPre_clip_idle_KernelIdeal)
-- ==== Pre_clip_idle_KernelIdeal.lean ====
abbrev S512x4096 : Shape := ⟨2, ![512, 4096]⟩
abbrev S4096x2048 : Shape := ⟨2, ![4096, 2048]⟩
abbrev S512x2048 : Shape := ⟨2, ![512, 2048]⟩
abbrev S_ : Shape := ⟨0, ![]⟩

class Facts : Prop where
  bcast_S_S512x2048 : S_.BroadcastsInDim S512x2048 (![] : Fin 0 → Fin S512x2048.rank)
  dot_S512x4096_S4096x2048_S512x2048_1_0_0_1_n_n_wf : DotDims.WF S512x4096 S4096x2048 S512x2048 [1] [0] [0] [1] [] []

variable [Facts]

def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf
def fn {F : FTy → Type} [FloatOps F] (main_arg0 : FVec F S512x4096 .f32) (main_arg1 : FVec F S4096x2048 .f32) : IVec S512x2048 1 :=
  let main_v0 : FVec F S512x2048 .f32 := (fun l r => Host.dotGeneral dot_S512x4096_S4096x2048_S512x2048_1_0_0_1_n_n none l r) main_arg0 main_arg1
  let main_v1 : FVec F S512x2048 .f32 := Host.absf main_v0
  let main_cst : FVec F S_ .f32 := constant S_ .f32 0x42700000#32
  let main_v2 : FVec F S512x2048 .f32 := broadcastInDim S512x2048 ![] bcast_S_S512x2048 main_cst
  let main_v3 : IVec S512x2048 1 := cmpf .ole main_v1 main_v2
  main_v3
-- ==== Pre_clip_idle_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S512x4096 : Shape := ⟨2, ![512, 4096]⟩
abbrev S4096x2048 : Shape := ⟨2, ![4096, 2048]⟩
abbrev S4096x256 : Shape := ⟨2, ![4096, 256]⟩
abbrev S7x512x256 : Shape := ⟨3, ![7, 512, 256]⟩
abbrev S2x4096x256 : Shape := ⟨3, ![2, 4096, 256]⟩
abbrev S2x512x256 : Shape := ⟨3, ![2, 512, 256]⟩
abbrev S7 : Shape := ⟨1, ![7]⟩
abbrev S2 : Shape := ⟨1, ![2]⟩
abbrev S_ : Shape := ⟨0, ![]⟩
abbrev S1 : Shape := ⟨1, ![1]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S7x512x256, .bf16⟩
  | .local _ .vmem, ⟨2, _⟩ => ⟨S7x512x256, .bf16⟩
  | .local _ .vmem, ⟨3, _⟩ => ⟨S2x4096x256, .f32⟩
  | .local _ .vmem, ⟨4, _⟩ => ⟨S2x512x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_33 : BitVec 32) : Fin 2 → Nat :=
  let c0_i32_40 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let v37 : BitVec 32 := Scalar.subi c1_i32_31 v35
  let c4_i32_32 : BitVec 32 := 4#32
  let v38 : BitVec 32 := Scalar.muli v37 c4_i32_32
  let c4_i32_30 : BitVec 32 := 4#32
  let v36 : BitVec 32 := Scalar.remsi v2 c4_i32_30
  let v39 : BitVec 32 := Scalar.addi v36 c1_i32_33
  let c1_i32_34 : BitVec 32 := 1#32
  let v40 : BitVec 32 := Scalar.subi v39 c1_i32_34
  let c4_i32_35 : BitVec 32 := 4#32
  let v41 : BitVec 32 := Scalar.remsi v40 c4_i32_35
  let v42 : BitVec 32 := Scalar.addi v38 v41
  let c256_i32 : BitVec 32 := 256#32
  let v43 : BitVec 32 := Scalar.muli v42 c256_i32
  ![0, v43.toNat]
def k0_dev8 (d0 : Dev nD) : Nat :=
  let c0_i32_70 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let v37 : BitVec 32 := Scalar.subi c1_i32_31 v35
  let c4_i32_32 : BitVec 32 := 4#32
  let v38 : BitVec 32 := Scalar.muli v37 c4_i32_32
  let c4_i32_30 : BitVec 32 := 4#32
  let v36 : BitVec 32 := Scalar.remsi v2 c4_i32_30
  let c1_i32_61 : BitVec 32 := 1#32
  let v74 : BitVec 32 := Scalar.addi v36 c1_i32_61
  let c1_i32_62 : BitVec 32 := 1#32
  let v75 : BitVec 32 := Scalar.subi v74 c1_i32_62
  let c4_i32_63 : BitVec 32 := 4#32
  let v76 : BitVec 32 := Scalar.remsi v75 c4_i32_63
  let v77 : BitVec 32 := Scalar.addi v38 v76
  let c1_i32_69 : BitVec 32 := 1#32
  let v78 : BitVec 32 := Scalar.muli v77 c1_i32_69
  let v79 : BitVec 32 := Scalar.addi c0_i32_70 v78
  v79.toNat
def k0_dev9 (d0 : Dev nD) : Nat :=
  let c0_i32_103 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let v37 : BitVec 32 := Scalar.subi c1_i32_31 v35
  let c4_i32_32 : BitVec 32 := 4#32
  let v38 : BitVec 32 := Scalar.muli v37 c4_i32_32
  let c4_i32_30 : BitVec 32 := 4#32
  let v36 : BitVec 32 := Scalar.remsi v2 c4_i32_30
  let c2_i32_95 : BitVec 32 := 2#32
  let v113 : BitVec 32 := Scalar.addi v36 c2_i32_95
  let c1_i32_96 : BitVec 32 := 1#32
  let v114 : BitVec 32 := Scalar.subi v113 c1_i32_96
  let c4_i32_97 : BitVec 32 := 4#32
  let v115 : BitVec 32 := Scalar.remsi v114 c4_i32_97
  let v116 : BitVec 32 := Scalar.addi v38 v115
  let c1_i32_102 : BitVec 32 := 1#32
  let v117 : BitVec 32 := Scalar.muli v116 c1_i32_102
  let v118 : BitVec 32 := Scalar.addi c0_i32_103 v117
  v118.toNat
def k0_dev10 (d0 : Dev nD) : Nat :=
  let c0_i32_136 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let v37 : BitVec 32 := Scalar.subi c1_i32_31 v35
  let c4_i32_32 : BitVec 32 := 4#32
  let v38 : BitVec 32 := Scalar.muli v37 c4_i32_32
  let c4_i32_30 : BitVec 32 := 4#32
  let v36 : BitVec 32 := Scalar.remsi v2 c4_i32_30
  let c3_i32_128 : BitVec 32 := 3#32
  let v152 : BitVec 32 := Scalar.addi v36 c3_i32_128
  let c1_i32_129 : BitVec 32 := 1#32
  let v153 : BitVec 32 := Scalar.subi v152 c1_i32_129
  let c4_i32_130 : BitVec 32 := 4#32
  let v154 : BitVec 32 := Scalar.remsi v153 c4_i32_130
  let v155 : BitVec 32 := Scalar.addi v38 v154
  let c1_i32_135 : BitVec 32 := 1#32
  let v156 : BitVec 32 := Scalar.muli v155 c1_i32_135
  let v157 : BitVec 32 := Scalar.addi c0_i32_136 v156
  v157.toNat
def k0_off2 (d0 : Dev nD) (c5_i32_142 : BitVec 32) : Fin 2 → Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let c4_i32_141 : BitVec 32 := 4#32
  let v166 : BitVec 32 := Scalar.muli v35 c4_i32_141
  let c4_i32_30 : BitVec 32 := 4#32
  let v36 : BitVec 32 := Scalar.remsi v2 c4_i32_30
  let v167 : BitVec 32 := Scalar.addi v36 c5_i32_142
  let c4_i32_143 : BitVec 32 := 4#32
  let v168 : BitVec 32 := Scalar.subi v167 c4_i32_143
  let c4_i32_144 : BitVec 32 := 4#32
  let v169 : BitVec 32 := Scalar.remsi v168 c4_i32_144
  let v170 : BitVec 32 := Scalar.addi v166 v169
  let c256_i32_145 : BitVec 32 := 256#32
  let v171 : BitVec 32 := Scalar.muli v170 c256_i32_145
  ![0, v171.toNat]
def k0_dev11 (d0 : Dev nD) : Nat :=
  let c0_i32_170 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let v37 : BitVec 32 := Scalar.subi c1_i32_31 v35
  let c4_i32_32 : BitVec 32 := 4#32
  let v38 : BitVec 32 := Scalar.muli v37 c4_i32_32
  let c4_i32_30 : BitVec 32 := 4#32
  let v36 : BitVec 32 := Scalar.remsi v2 c4_i32_30
  let c4_i32_162 : BitVec 32 := 4#32
  let v192 : BitVec 32 := Scalar.addi v36 c4_i32_162
  let c1_i32_163 : BitVec 32 := 1#32
  let v193 : BitVec 32 := Scalar.subi v192 c1_i32_163
  let c4_i32_164 : BitVec 32 := 4#32
  let v194 : BitVec 32 := Scalar.remsi v193 c4_i32_164
  let v195 : BitVec 32 := Scalar.addi v38 v194
  let c1_i32_169 : BitVec 32 := 1#32
  let v196 : BitVec 32 := Scalar.muli v195 c1_i32_169
  let v197 : BitVec 32 := Scalar.addi c0_i32_170 v196
  v197.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let c4_i32_196 : BitVec 32 := 4#32
  let v232 : BitVec 32 := Scalar.muli v35 c4_i32_196
  let c4_i32_30 : BitVec 32 := 4#32
  let v36 : BitVec 32 := Scalar.remsi v2 c4_i32_30
  let c5_i32_197 : BitVec 32 := 5#32
  let v233 : BitVec 32 := Scalar.addi v36 c5_i32_197
  let c4_i32_198 : BitVec 32 := 4#32
  let v234 : BitVec 32 := Scalar.subi v233 c4_i32_198
  let c4_i32_199 : BitVec 32 := 4#32
  let v235 : BitVec 32 := Scalar.remsi v234 c4_i32_199
  let v236 : BitVec 32 := Scalar.addi v232 v235
  let c1_i32_204 : BitVec 32 := 1#32
  let v237 : BitVec 32 := Scalar.muli v236 c1_i32_204
  let v238 : BitVec 32 := Scalar.addi c0_i32_205 v237
  v238.toNat
def k0_dev13 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let c4_i32_231 : BitVec 32 := 4#32
  let v273 : BitVec 32 := Scalar.muli v35 c4_i32_231
  let c4_i32_30 : BitVec 32 := 4#32
  let v36 : BitVec 32 := Scalar.remsi v2 c4_i32_30
  let c6_i32_232 : BitVec 32 := 6#32
  let v274 : BitVec 32 := Scalar.addi v36 c6_i32_232
  let c4_i32_233 : BitVec 32 := 4#32
  let v275 : BitVec 32 := Scalar.subi v274 c4_i32_233
  let c4_i32_234 : BitVec 32 := 4#32
  let v276 : BitVec 32 := Scalar.remsi v275 c4_i32_234
  let v277 : BitVec 32 := Scalar.addi v273 v276
  let c1_i32_239 : BitVec 32 := 1#32
  let v278 : BitVec 32 := Scalar.muli v277 c1_i32_239
  let v279 : BitVec 32 := Scalar.addi c0_i32_240 v278
  v279.toNat
def k0_off3 (d0 : Dev nD) : Fin 2 → Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_245 : BitVec 32 := 256#32
  let v288 : BitVec 32 := Scalar.muli v2 c256_i32_245
  ![0, v288.toNat]
def k0_dev14 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let c4_i32_262 : BitVec 32 := 4#32
  let v309 : BitVec 32 := Scalar.muli v35 c4_i32_262
  let c4_i32_30 : BitVec 32 := 4#32
  let v36 : BitVec 32 := Scalar.remsi v2 c4_i32_30
  let c7_i32_263 : BitVec 32 := 7#32
  let v310 : BitVec 32 := Scalar.addi v36 c7_i32_263
  let c4_i32_264 : BitVec 32 := 4#32
  let v311 : BitVec 32 := Scalar.subi v310 c4_i32_264
  let c4_i32_265 : BitVec 32 := 4#32
  let v312 : BitVec 32 := Scalar.remsi v311 c4_i32_265
  let v313 : BitVec 32 := Scalar.addi v309 v312
  let c1_i32_270 : BitVec 32 := 1#32
  let v314 : BitVec 32 := Scalar.muli v313 c1_i32_270
  let v315 : BitVec 32 := Scalar.addi c0_i32_271 v314
  v315.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v329 : BitVec 32 := Scalar.muli v2 c512_i32
  let c0_i32_290 : BitVec 32 := 0#32
  ![v329.toNat, 0]
def k0_off5 (d0 : Dev nD) (c1_i32_312 : BitVec 32) : Fin 2 → Nat :=
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let v37 : BitVec 32 := Scalar.subi c1_i32_31 v35
  let c4_i32_32 : BitVec 32 := 4#32
  let v38 : BitVec 32 := Scalar.muli v37 c4_i32_32
  let c4_i32_30 : BitVec 32 := 4#32
  let v36 : BitVec 32 := Scalar.remsi v2 c4_i32_30
  let v358 : BitVec 32 := Scalar.subi v36 c1_i32_312
  let c1_i32_313 : BitVec 32 := 1#32
  let v359 : BitVec 32 := Scalar.addi v358 c1_i32_313
  let c4_i32_314 : BitVec 32 := 4#32
  let v360 : BitVec 32 := Scalar.addi v359 c4_i32_314
  let c4_i32_315 : BitVec 32 := 4#32
  let v361 : BitVec 32 := Scalar.remsi v360 c4_i32_315
  let v362 : BitVec 32 := Scalar.addi v38 v361
  let c512_i32_316 : BitVec 32 := 512#32
  let v363 : BitVec 32 := Scalar.muli v362 c512_i32_316
  let c0_i32_325 : BitVec 32 := 0#32
  ![v363.toNat, 0]
def k0_off6 (d0 : Dev nD) (c5_i32_468 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v35 : BitVec 32 := Scalar.divsi v2 c4_i32_29
  let c4_i32_467 : BitVec 32 := 4#32
  let v497 : BitVec 32 := Scalar.muli v35 c4_i32_467
  let c4_i32_30 : BitVec 32 := 4#32
  let v36 : BitVec 32 := Scalar.remsi v2 c4_i32_30
  let v498 : BitVec 32 := Scalar.subi v36 c5_i32_468
  let c4_i32_469 : BitVec 32 := 4#32
  let v499 : BitVec 32 := Scalar.addi v498 c4_i32_469
  let c4_i32_470 : BitVec 32 := 4#32
  let v500 : BitVec 32 := Scalar.addi v499 c4_i32_470
  let c4_i32_471 : BitVec 32 := 4#32
  let v501 : BitVec 32 := Scalar.remsi v500 c4_i32_471
  let v502 : BitVec 32 := Scalar.addi v497 v501
  let c512_i32_472 : BitVec 32 := 512#32
  let v503 : BitVec 32 := Scalar.muli v502 c512_i32_472
  let c0_i32_486 : BitVec 32 := 0#32
  ![v503.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Mesh.lean ====
/-
# Who sends to whom

Eight devices, in two halves of four. Device `c` sends seven blocks, from slots `0 … 6` of its send buffer:
slots `0 … 3` go to the other half, slots `4 … 6` to the other devices of its own half. The maps below name, for
each slot, the device it goes to (`tgt`), the device whose block lands in that slot here (`src`), and how the
seven barrier signals a device sends meet those slots (`sgn`, `slotOf`). Every fact is a finite check over the
eight devices and seven slots.
-/
module

public import proofs.«01_k».proof.Proof.Gen.KernelIdeal

@[expose] public section

namespace Cert.AllToAll

open Cert.KernelIdeal Cert.KernelIdeal.Gen
open Idealize.ShloMosaic

/-- The number of the device slot `k` of device `d` is sent to. -/
def tgtN (k d : ℕ) : ℕ :=
  if k < 4 then 4 * (1 - d / 4) + (d % 4 + k) % 4 else 4 * (d / 4) + (d % 4 + (k - 3)) % 4

/-- The number of the device whose block lands in slot `k` of device `d`. -/
def srcN (k d : ℕ) : ℕ :=
  if k < 4 then 4 * (1 - d / 4) + (d % 4 + 4 - k) % 4 else 4 * (d / 4) + (d % 4 + 7 - k) % 4

theorem tgtN_lt : ∀ (k : Fin 7) (d : Fin 8), tgtN k.val d.val < 8 := by decide
theorem srcN_lt : ∀ (k : Fin 7) (d : Fin 8), srcN k.val d.val < 8 := by decide

set_option backward.proofsInPublic true in
/-- The device slot `k` of device `d` is sent to. -/
def tgt (k : Fin 7) (d : Dev nD) : Dev nD := ⟨tgtN k.val d.val, tgtN_lt k d⟩
set_option backward.proofsInPublic true in
/-- The device whose block lands in slot `k` of device `d`. -/
def src (k : Fin 7) (d : Dev nD) : Dev nD := ⟨srcN k.val d.val, srcN_lt k d⟩

theorem src_tgt : ∀ (k : Fin 7) (d : Dev nD), src k (tgt k d) = d := by decide
theorem tgt_src : ∀ (k : Fin 7) (d : Dev nD), tgt k (src k d) = d := by decide

set_option backward.proofsInPublic true in
/-- The device the `j`-th barrier signal of device `d` goes to: the one `j + 1` further round. -/
def sgn (j : Fin 7) (d : Dev nD) : Dev nD := ⟨(d.val + (j.val + 1)) % 8, Nat.mod_lt _ (by decide)⟩

/-- The number of the slot of device `d` that device `e` fills. -/
def slotN (e d : ℕ) : ℕ :=
  if d / 4 = e / 4 then 3 + (d % 4 + 4 - e % 4) % 4 else (d % 4 + 4 - e % 4) % 4

theorem slotN_lt : ∀ (j : Fin 7) (d : Dev nD), slotN (sgn j d).val d.val < 7 := by decide

set_option backward.proofsInPublic true in
/-- The slot of device `d` filled by the device its `j`-th signal goes to. -/
def slotOf (j : Fin 7) (d : Dev nD) : Fin 7 := ⟨slotN (sgn j d).val d.val, slotN_lt j d⟩

theorem src_slotOf : ∀ (j : Fin 7) (d : Dev nD), src (slotOf j d) d = sgn j d := by decide
/-- The device signalled sends its slot `slotOf j d` back to the signaller. -/
theorem tgt_slotOf (j : Fin 7) (d : Dev nD) : tgt (slotOf j d) (sgn j d) = d := by
  rw [← src_slotOf]; exact tgt_src _ _

/-- The number of the signal by which device `d` reaches device `e`. -/
def sgnN (e d : ℕ) : ℕ := (e + 7 - d) % 8

theorem sgnN_lt : ∀ (k : Fin 7) (e : Dev nD), sgnN e.val (tgt k e).val < 7 := by decide

set_option backward.proofsInPublic true in
/-- The signal by which the device that slot `k` of `e` goes to reaches `e`. -/
def sgnOf (k : Fin 7) (e : Dev nD) : Fin 7 := ⟨sgnN e.val (tgt k e).val, sgnN_lt k e⟩

theorem sgn_sgnOf : ∀ (k : Fin 7) (e : Dev nD), sgn (sgnOf k e) (tgt k e) = e := by decide
theorem slotOf_sgnOf : ∀ (k : Fin 7) (e : Dev nD), slotOf (sgnOf k e) (tgt k e) = k := by decide
theorem sgnOf_slotOf : ∀ (j : Fin 7) (d : Dev nD), sgnOf (slotOf j d) (sgn j d) = j := by decide

/-- Signal `j` of device `d` is duty `slotOf j d` of the device it goes to: a one-to-one matching of the signals
    sent with the signals awaited. -/
def signalMatch : Dev nD × Fin 7 ≃ Dev nD × Fin 7 where
  toFun p := (sgn p.2 p.1, slotOf p.2 p.1)
  invFun p := (tgt p.2 p.1, sgnOf p.2 p.1)
  left_inv p := Prod.ext (tgt_slotOf p.2 p.1) (by
    show sgnOf (slotOf p.2 p.1) (sgn p.2 p.1) = p.2
    exact sgnOf_slotOf _ _)
  right_inv p := Prod.ext (sgn_sgnOf p.2 p.1) (slotOf_sgnOf p.2 p.1)

/-- Slot `k` of device `d` lands in slot `k` of `tgt k d`: a one-to-one matching of blocks sent with blocks
    received. -/
def sendMatch : Dev nD × Fin 7 ≃ Dev nD × Fin 7 where
  toFun p := (tgt p.2 p.1, p.2)
  invFun p := (src p.2 p.1, p.2)
  left_inv p := Prod.ext (src_tgt p.2 p.1) rfl
  right_inv p := Prod.ext (tgt_src p.2 p.1) rfl

theorem slotOf_bij (d : Dev nD) : Function.Bijective (fun j => slotOf j d) := by revert d; decide

/-- The slots of device `d`, in the order in which its signals hand them out. -/
noncomputable def slotPerm (d : Dev nD) : Fin 7 ≃ Fin 7 := Equiv.ofBijective _ (slotOf_bij d)

/-- The column blocks of the weights device `d` multiplies by: those of the seven devices it sends to, then its own. -/
def colOf (d : Dev nD) : Option (Fin 7) → Dev nD
  | none => d
  | some k => tgt k d
/-- The row blocks of device `d`'s result: its own, and those of the seven devices it receives from. -/
def rowOf (d : Dev nD) : Option (Fin 7) → Dev nD
  | none => d
  | some k => src k d

theorem colOf_bij (d : Dev nD) : Function.Bijective (colOf d) := by revert d; decide
theorem rowOf_bij (d : Dev nD) : Function.Bijective (rowOf d) := by revert d; decide

noncomputable def colPerm (d : Dev nD) : Option (Fin 7) ≃ Dev nD := Equiv.ofBijective _ (colOf_bij d)
noncomputable def rowPerm (d : Dev nD) : Option (Fin 7) ≃ Dev nD := Equiv.ofBijective _ (rowOf_bij d)

/-! ## The kernel's own device numbers -/

theorem dev1_eq (c : Dev nD) : (⟨k0_dev1 c, k0_dev1_lt c⟩ : Dev nD) = sgn 0 c := Fin.ext (k0_dev1_eq c)
theorem dev2_eq (c : Dev nD) : (⟨k0_dev2 c, k0_dev2_lt c⟩ : Dev nD) = sgn 1 c := Fin.ext (k0_dev2_eq c)
theorem dev3_eq (c : Dev nD) : (⟨k0_dev3 c, k0_dev3_lt c⟩ : Dev nD) = sgn 2 c := Fin.ext (k0_dev3_eq c)
theorem dev4_eq (c : Dev nD) : (⟨k0_dev4 c, k0_dev4_lt c⟩ : Dev nD) = sgn 3 c := Fin.ext (k0_dev4_eq c)
theorem dev5_eq (c : Dev nD) : (⟨k0_dev5 c, k0_dev5_lt c⟩ : Dev nD) = sgn 4 c := Fin.ext (k0_dev5_eq c)
theorem dev6_eq (c : Dev nD) : (⟨k0_dev6 c, k0_dev6_lt c⟩ : Dev nD) = sgn 5 c := Fin.ext (k0_dev6_eq c)
theorem dev7_eq (c : Dev nD) : (⟨k0_dev7 c, k0_dev7_lt c⟩ : Dev nD) = sgn 6 c := Fin.ext (k0_dev7_eq c)

theorem dev8_eq (c : Dev nD) : (⟨k0_dev8 c, k0_dev8_lt c⟩ : Dev nD) = tgt 0 c :=
  Fin.ext ((k0_dev8_eq c).trans (by revert c; decide))
theorem dev9_eq (c : Dev nD) : (⟨k0_dev9 c, k0_dev9_lt c⟩ : Dev nD) = tgt 1 c :=
  Fin.ext ((k0_dev9_eq c).trans (by revert c; decide))
theorem dev10_eq (c : Dev nD) : (⟨k0_dev10 c, k0_dev10_lt c⟩ : Dev nD) = tgt 2 c :=
  Fin.ext ((k0_dev10_eq c).trans (by revert c; decide))
theorem dev11_eq (c : Dev nD) : (⟨k0_dev11 c, k0_dev11_lt c⟩ : Dev nD) = tgt 3 c :=
  Fin.ext ((k0_dev11_eq c).trans (by revert c; decide))
theorem dev12_eq (c : Dev nD) : (⟨k0_dev12 c, k0_dev12_lt c⟩ : Dev nD) = tgt 4 c :=
  Fin.ext ((k0_dev12_eq c).trans (by revert c; decide))
theorem dev13_eq (c : Dev nD) : (⟨k0_dev13 c, k0_dev13_lt c⟩ : Dev nD) = tgt 5 c :=
  Fin.ext ((k0_dev13_eq c).trans (by revert c; decide))
theorem dev14_eq (c : Dev nD) : (⟨k0_dev14 c, k0_dev14_lt c⟩ : Dev nD) = tgt 6 c :=
  Fin.ext ((k0_dev14_eq c).trans (by revert c; decide))

/-! ## The kernel's own offsets -/

/-- Where column block `t` of the weights starts. -/
abbrev colOff (t : Dev nD) : Fin 2 → ℕ := ![0, 256 * t.val]
/-- Where row block `t` of the result starts. -/
abbrev rowOff (t : Dev nD) : Fin 2 → ℕ := ![512 * t.val, 0]

theorem colOff_inb : ∀ (t : Dev nD) (a : Fin 2), colOff t a + S4096x256.size a ≤ S4096x2048.size a := by decide
theorem rowOff_inb : ∀ (t : Dev nD) (a : Fin 2), rowOff t a + S512x256.size a ≤ S4096x256.size a := by decide

theorem off1_eq (c : Dev nD) (r : Fin 4) : k0_off1 c (BitVec.ofNat 32 (1 + r.val)) = colOff (tgt ⟨r.val, by omega⟩ c) :=
  (k0_off1_eq c r).trans (by revert c r; decide)
theorem off2_eq (c : Dev nD) (r : Fin 3) : k0_off2 c (BitVec.ofNat 32 (5 + r.val)) = colOff (tgt ⟨4 + r.val, by omega⟩ c) :=
  (k0_off2_eq c r).trans (by revert c r; decide)
theorem off3_eq (c : Dev nD) : k0_off3 c = colOff c := k0_off3_eq c
theorem off4_eq (c : Dev nD) : k0_off4 c = rowOff c := k0_off4_eq c
theorem off5_eq (c : Dev nD) (r : Fin 4) : k0_off5 c (BitVec.ofNat 32 (1 + r.val)) = rowOff (src ⟨r.val, by omega⟩ c) :=
  (k0_off5_eq c r).trans (by revert c r; decide)
theorem off6_eq (c : Dev nD) (r : Fin 3) : k0_off6 c (BitVec.ofNat 32 (5 + r.val)) = rowOff (src ⟨4 + r.val, by omega⟩ c) :=
  (k0_off6_eq c r).trans (by revert c r; decide)

end Cert.AllToAll
-- ==== Proof.Steps.lean ====
/-
# One step of the kernel at a time

The kernel works on slots: a slot is one leading index of a buffer, seen with that axis dropped. The rules below read
each effect the kernel has on a slot in terms of what the slot holds (`owns`), so that the proof of the body can go
through the program one effect per line: load a slot, store a slot, start a copy between two memrefs, wait for it.
-/
module

public import proofs.«01_k».proof.Proof.Mesh
public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange: the rounds of its cells, whose duties are numbered by the seven slots. -/
abbrev UB : Type := URounds (GSem nD τ sig) (Fin 7)
/-- All ghost state: the pipeline's, the exchange's, and the counters the copies inside a device are tracked by. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC := countersEmb (nD := nD) (τ := τ) (sig := sig) (Ix := Unit) (Val := Elt F) (Name := ℕ) (U := UU) (Lvl := ℕ)

abbrev 𝒱₀ : Variants := Variants.none

/-- What device `c` still owes, whatever it has waited for. -/
def ow (c : Dev nD) (O : CellTallies nD τ sig Unit) : sProp 𝕄 := iprop(∃ W, owes (c : Thread nD τ) O W)

/-- A whole program at device `c`, to the postcondition `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable {sp sp' : Space} {s s' : Shape} {e e' : EltTy} {α : Type}

/-- Re-indexing one way and back is nothing. -/
theorem shapeCast_back {A : Type} {s t : Shape} (h : t.numel = s.numel) (h' : s.numel = t.numel) (X : s.Idx → A) :
    shapeCast s (shapeCast t X h) h' = X := by
  funext j
  show X (Shape.reshapeEquiv h (Shape.reshapeEquiv h' j)) = X j
  rw [Shape.reshapeEquiv_reshapeEquiv, Shape.reshapeEquiv_self]

/-- A load of a slot reads what the slot holds, with the slot's unit axis put back. -/
theorem load_slot {cs : CoreSpace} (c : Dev nD) {M : Memref sig .tc cs s e} {r : Rect s} {hr : ∀ a, r.stride a = 1} {t : Shape}
    {hq : r.shape.Squeezes t} {q : PosShare TreeShare} {X : t.Idx → Elt F e} {hl : M.view.LoadsAt r}
    {k : (r.shape.Idx → Elt F e) → Prog (TpuEff nD τ sig (Elt F) Λ₀ .tc) α} {Q : α → sProp 𝕄} :
    (owns (c : Thread nD τ) ((M.slice r hr).squeeze t hq) q X : sProp 𝕄)
      ⊢ iprop((owns (c : Thread nD τ) ((M.slice r hr).squeeze t hq) q X -∗ run c (k (shapeCast r.shape X hq.numel_eq.symm)) Q)
        -∗ run c (.op (.load M r hl) k) Q) := by
  unfold owns
  iintro ⟨%f, %hf, H⟩ Hk
  have hset : ((M.slice r hr).squeeze t hq).view.set = (M.access r).set := View.set_reshape _ _
  rw [hset]
  iapply (wp_load_rect 𝒱₀ (c : Thread nD τ) none Set.univ (m := M) (r := r) subset_rfl) $$ H
  iintro H
  have hread : (M.access r).read (Elt F) f = shapeCast r.shape X hq.numel_eq.symm := by
    rw [← hf]
    exact (shapeCast_back hq.numel_eq hq.numel_eq.symm ((M.access r).read (Elt F) f)).symm
  rw [hread]
  iapply Hk
  iexists f
  isplitr; · ipureintro; exact hf
  iexact H

/-- A store over a slot makes it hold the value stored, with its unit axis dropped. -/
theorem store_slot {cs : CoreSpace} (c : Dev nD) {M : Memref sig .tc cs s e} {r : Rect s} {hr : ∀ a, r.stride a = 1} {t : Shape}
    {hq : r.shape.Squeezes t} {X : t.Idx → Elt F e} {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) ((M.slice r hr).squeeze t hq) fullShare X : sProp 𝕄)
      ⊢ iprop((owns (c : Thread nD τ) ((M.slice r hr).squeeze t hq) fullShare (shapeCast t w hq.numel_eq) -∗ run c (k ⟨⟩) Q)
        -∗ run c (.op (.store M r w Finset.univ hx hm) k) Q) := by
  unfold owns
  iintro ⟨%f, %hf, H⟩ Hk
  have hset : ((M.slice r hr).squeeze t hq).view.set = (M.access r).set := View.set_reshape _ _
  rw [hset]
  iapply (wp_store 𝒱₀ (c : Thread nD τ) none Set.univ (m := M) (r := r) (Mk := Finset.univ) (S := (M.access r).set) (f := f)
    (View.setOn_univ _).subset) $$ H
  iintro H
  iapply Hk
  iexists (M.access r).write (Elt F) f w Finset.univ
  isplitr
  · ipureintro
    have h : (M.access r).read (Elt F) ((M.access r).write (Elt F) f w Finset.univ) = w := View.read_write_univ _ _
    show (fun j => (M.access r).read (Elt F) ((M.access r).write (Elt F) f w Finset.univ) (Shape.reshapeEquiv hq.numel_eq j)) = _
    rw [h]; rfl
  iexact H

/-- Starting a copy between two memrefs the device owns: what comes back at the wait is both of them, the destination
    holding what the source holds. Either may be spelt any way equal to a memref the device owns. -/
theorem copy_issue (c : Dev nD) {A A' : Memref sig .tc sp s e} (hA : A = A') {B B' : Memref sig .tc sp' s e} (hB : B = B') {sm : DmaSem sig}
    {hsrc : A.view.WordExact} {hdst : B.view.WordExact} {hsem : DmaTarget.Typed sp (.dma sm) (DmaTarget.here B : DmaTarget nD τ sig .tc sp' s e)}
    {k : PUnit → Prog (TpuEff nD τ sig (Elt F) Λ₀ .tc) α} {Q : α → sProp 𝕄} {q : PosShare TreeShare} {X Y : s.Idx → Elt F e}
    (hpos : 0 < s.numel) :
    (owns (c : Thread nD τ) A' q X : sProp 𝕄)
      ⊢ iprop(owns (c : Thread nD τ) B' fullShare Y -∗ semVal ((c : Thread nD τ), .dma sm) 0
        -∗ (Transfers.Flight EC (c : Thread nD τ) (.dma sm) () B'.view.dmaCredit
              iprop(owns (c : Thread nD τ) B' fullShare X ∗ owns (c : Thread nD τ) A' q X) -∗ run c (k ⟨⟩) Q)
        -∗ run c (.op (.enqueueDma A (.here B) (.dma sm) hsrc hdst hsem) k) Q) := by
  subst hA hB
  iintro HA HB Hv Hk
  ihave HA' := (show owns (c : Thread nD τ) A q X ⊢ iprop(∃ f, ⌜A.view.read (Elt F) f = X⌝ ∗ (A.view.loc (c : Thread nD τ) ↦[A.view.set]{q} f)) from .rfl) $$ HA
  ihave HB' := (show owns (c : Thread nD τ) B fullShare Y ⊢ iprop(∃ f, ⌜B.view.read (Elt F) f = Y⌝ ∗ (B.view.loc (c : Thread nD τ) ↦[B.view.set]{fullShare} f)) from .rfl) $$ HB
  icases HA' with ⟨%fa, %ha, HA'⟩
  icases HB' with ⟨%fb, %hb, HB'⟩
  iapply (Transfers.wp_dmaLocal EC 𝒱₀ (c : Thread nD τ) none (src := A) (via := ReadAs.same) (dst := B) () B.view.dmaCredit rfl (View.dmaCredit_pos _ hpos) (subset_refl _))
    $$ [HA' HB' Hv]
  · isplitl [HA']; · iexact HA'
    isplitl [HB']; · iexact HB'
    iexact Hv
  iintro HF
  iapply Hk
  iapply (Transfers.Flight_mono EC (c : Thread nD τ) (D' := iprop(owns (c : Thread nD τ) B fullShare X ∗ owns (c : Thread nD τ) A q X)) ?_) $$ HF
  iintro ⟨H1, H2⟩
  isplitl [H1]
  · unfold owns; iexists B.view.write (Elt F) fb (A.view.read (Elt F) fa) Finset.univ; isplitr
    · ipureintro; exact (View.read_write_univ _ _).trans ha
    · iexact H1
  · unfold owns; iexists fa; isplitr
    · ipureintro; exact ha
    · iexact H2

/-- Waiting for such a copy gives both memrefs back, and the semaphore's counter at zero. -/
theorem copy_wait (c : Dev nD) {sp : Space} {s' : Shape} {e' : EltTy} {sm : DmaSem sig} {A : Memref sig .tc sp' s' e'} {B : Memref sig .tc sp s e}
    {hsrc : A.view.WordExact} {hdst : B.view.WordExact} {k : PUnit → Prog (TpuEff nD τ sig (Elt F) Λ₀ .tc) α} {Q : α → sProp 𝕄}
    {D : sProp 𝕄} {N : ℕ} (hN : B.view.dmaCredit = N) {O : CellTallies nD τ sig Unit} {L : GSem nD τ sig → Finset Unit}
    {lv : GSem nD τ sig → Unit → ℕ} (hw : (levAts L lv : sProp 𝕄) ⊢ MayWait (c : Thread nD τ) (.dma sm) () O) :
    (Transfers.Flight EC (c : Thread nD τ) (.dma sm) () N D : sProp 𝕄)
      ⊢ iprop(levAts L lv -∗ ow c O -∗ ((D ∗ semVal ((c : Thread nD τ), .dma sm) 0 ∗ ow c O) -∗ run c (k ⟨⟩) Q)
        -∗ run c (.op (.waitDma2 sm A B hsrc hdst) k) Q) := by
  unfold ow
  iintro HF #Hlev ⟨%W, HO⟩ Hk
  iapply (Transfers.wp_waitLocalO EC 𝒱₀ (c : Thread nD τ) none () hN (O := O) (W := W)) $$ [HF HO]
  · isplitl [HF]; · iexact HF
    isplitl [HO]; · iexact HO
    iapply hw; iexact Hlev
  iintro ⟨HD, Hv, HO⟩
  iapply Hk
  isplitl [HD]; · iexact HD
  isplitl [Hv]; · iexact Hv
  iexists _; iexact HO

end Steps

end Cert.AllToAll

end
-- ==== Proof.Protocol.lean ====
/-
# The protocol of the exchange

Each device has fifteen cells: its barrier, and for each of its seven slots a send and a receive semaphore.

* The barrier of device `e` is signalled once by each of the other seven devices and awaited once, for seven. The
  signaller that will be sent slot `k` of `e` hands over its own receive slot `k`: `e` may write there.
* The send semaphore of slot `k` is credited by the device's own copy out of that slot, and awaited once. It hands the
  slot back.
* The receive semaphore of slot `k` on device `e` is credited by the copy of `src k e`, and awaited once. It hands over
  `e`'s receive slot, holding the block `src k e` computed for `e`.

What a device owes: seven signals, then seven blocks. It owes nothing when it waits for blocks.
-/
module

public import proofs.«01_k».proof.Proof.Steps
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots, blocks and semaphores -/

theorem slot7_inb : ∀ (k : Fin 7) (a : Fin 3), (![k.val, 0, 0] : Fin 3 → ℕ) a + S1x512x256.size a ≤ S7x512x256.size a := by decide
theorem tile_inb : ∀ (s : Fin 2) (a : Fin 3), (![s.val, 0, 0] : Fin 3 → ℕ) a + S1x4096x256.size a ≤ S2x4096x256.size a := by decide
theorem stage_inb : ∀ (s : Fin 2) (a : Fin 3), (![s.val, 0, 0] : Fin 3 → ℕ) a + S1x512x256.size a ≤ S2x512x256.size a := by decide
theorem sem7_inb : ∀ (k : Fin 7) (a : Fin 1), (![k.val] : Fin 1 → ℕ) a + S1.size a ≤ S7.size a := by decide
theorem sem2_inb : ∀ (k : Fin 2) (a : Fin 1), (![k.val] : Fin 1 → ℕ) a + S1.size a ≤ S2.size a := by decide

abbrev slotR (k : Fin 7) : Rect S7x512x256 := Rect.unit (s := S7x512x256) ![k.val, 0, 0] S1x512x256.size (slot7_inb k)
abbrev tileR (s : Fin 2) : Rect S2x4096x256 := Rect.unit (s := S2x4096x256) ![s.val, 0, 0] S1x4096x256.size (tile_inb s)
abbrev stageR (s : Fin 2) : Rect S2x512x256 := Rect.unit (s := S2x512x256) ![s.val, 0, 0] S1x512x256.size (stage_inb s)
abbrev colR (t : Dev nD) : Rect S4096x2048 := Rect.unit (s := S4096x2048) (colOff t) S4096x256.size (colOff_inb t)
abbrev rowR (t : Dev nD) : Rect S4096x256 := Rect.unit (s := S4096x256) (rowOff t) S512x256.size (rowOff_inb t)

/-- Slot `k` of the send buffer. -/
abbrev sndM (k : Fin 7) : Memref sig .tc .vmem S512x256 .bf16 :=
  ((Memref.whole cc0_scratch0).slice (slotR k) (fun _ => rfl)).squeeze S512x256 squeezes_S1x512x256_S512x256
/-- Slot `k` of the receive buffer. -/
abbrev rcvM (k : Fin 7) : Memref sig .tc .vmem S512x256 .bf16 :=
  ((Memref.whole cc0_scratch1).slice (slotR k) (fun _ => rfl)).squeeze S512x256 squeezes_S1x512x256_S512x256
/-- Slot `s` of the buffer the weights are fetched into. -/
abbrev tileM (s : Fin 2) : Memref sig .tc .vmem S4096x256 .f32 :=
  ((Memref.whole cc0_scratch2).slice (tileR s) (fun _ => rfl)).squeeze S4096x256 squeezes_S1x4096x256_S4096x256
/-- Slot `s` of the buffer the result's blocks leave from. -/
abbrev stageM (s : Fin 2) : Memref sig .tc .vmem S512x256 .f32 :=
  ((Memref.whole cc0_scratch3).slice (stageR s) (fun _ => rfl)).squeeze S512x256 squeezes_S1x512x256_S512x256
/-- Column block `t` of the weights. -/
abbrev colM (t : Dev nD) : Memref sig .tc .hbm S4096x256 .f32 := (Memref.whole main_arg1).slice (colR t) (fun _ => rfl)
/-- Row block `t` of the result. -/
abbrev rowM (t : Dev nD) : Memref sig .tc .hbm S512x256 .f32 := (Memref.whole main_v1).slice (rowR t) (fun _ => rfl)

abbrev barS : Sem sig := (SemArray.scalar (sig.barrier 0 rfl) : Sems sig S_).sem
abbrev sndS (k : Fin 7) : DmaSem sig := ((cc0_scratch4.slice (Rect.unit (s := S7) ![k.val] S1.size (sem7_inb k))).squeeze S_ squeezes_S1_S_).sem
abbrev rcvS (k : Fin 7) : DmaSem sig := ((cc0_scratch5.slice (Rect.unit (s := S7) ![k.val] S1.size (sem7_inb k))).squeeze S_ squeezes_S1_S_).sem
abbrev tileS (k : Fin 2) : DmaSem sig := ((cc0_scratch6.slice (Rect.unit (s := S2) ![k.val] S1.size (sem2_inb k))).squeeze S_ squeezes_S1_S_).sem
abbrev stageS (k : Fin 2) : DmaSem sig := ((cc0_scratch7.slice (Rect.unit (s := S2) ![k.val] S1.size (sem2_inb k))).squeeze S_ squeezes_S1_S_).sem

/-- A device's cells: `none` the barrier, `some (false, k)` slot `k`'s send, `some (true, k)` slot `k`'s receive. -/
abbrev CK : Type := Option (Bool × Fin 7)

def cellSem : CK → SemLoc sig
  | none => .reg barS
  | some (false, k) => .dma (sndS k)
  | some (true, k) => .dma (rcvS k)

theorem cellSem_injective : Function.Injective cellSem := by decide

def cellEmb : CK ↪ SemLoc sig := ⟨cellSem, cellSem_injective⟩

abbrev kcell (p : Dev nD × CK) : GSem nD τ sig := ((p.1 : Thread nD τ), cellSem p.2)
abbrev barCell (c : Dev nD) : GSem nD τ sig := ((c : Thread nD τ), .reg barS)
abbrev sndCell (c : Dev nD) (k : Fin 7) : GSem nD τ sig := ((c : Thread nD τ), .dma (sndS k))
abbrev rcvCell (c : Dev nD) (k : Fin 7) : GSem nD τ sig := ((c : Thread nD τ), .dma (rcvS k))

theorem kcell_injective : Function.Injective (kcell : Dev nD × CK → GSem nD τ sig) := by
  rintro ⟨c, k⟩ ⟨c', k'⟩ h
  have h1 : c = c' := congrArg (fun g : GSem nD τ sig => g.1.1) h
  have h2 : k = k' := cellSem_injective (congrArg Prod.snd h)
  rw [h1, h2]

/-- Which of a device's cells a semaphore is, if any. -/
def kindOf (sm : SemLoc sig) : Option CK := preimage? cellEmb sm

theorem kindOf_cell (ck : CK) : kindOf (cellSem ck) = some ck := preimage?_emb cellEmb ck
theorem kindOf_bar : kindOf (.reg barS) = some none := kindOf_cell none
theorem kindOf_snd (k : Fin 7) : kindOf (.dma (sndS k)) = some (some (false, k)) := kindOf_cell (some (false, k))
theorem kindOf_rcv (k : Fin 7) : kindOf (.dma (rcvS k)) = some (some (true, k)) := kindOf_cell (some (true, k))

/-- The credit of one block: the bytes one copy moves. -/
def N : ℕ := (rcvM ⟨0, by decide⟩).view.dmaCredit
theorem N_pos : 0 < N := View.dmaCredit_pos _ (by decide)
theorem credit_snd (k : Fin 7) : (sndM k).view.dmaCredit = N := rfl
theorem credit_rcv (k : Fin 7) : (rcvM k).view.dmaCredit = N := rfl
attribute [irreducible] N

/-! ## Contents -/

/-- Device `c`'s rows of `x`, as staged. -/
def xBlk (c : Dev nD) : FVec F S512x4096 .f32 := iblk m c (0 : Fin 1) t0_0
/-- Column block `t` of device `c`'s weights. -/
def wCol (c t : Dev nD) : FVec F S4096x256 .f32 := (colM t).view.read (Elt F) (m ((c : Thread nD τ).loc main_arg1))
/-- The block device `c` computes for the device of column block `t`, in the send buffer's layout. -/
def sndVal (c t : Dev nD) : FVec F S1x512x256 .bf16 := k0_pay2 (k0_pay1 (xBlk m c)) (shapeCast S1x4096x256 (wCol m c t))
/-- The same as a matrix: what a slot holds. -/
def blkVal (c t : Dev nD) : FVec F S512x256 .bf16 := shapeCast S512x256 (sndVal m c t)
/-- The block device `c` computes for itself. -/
def ownVal (c : Dev nD) : FVec F S1x512x256 .f32 := k0_pay9 (k0_pay1 (xBlk m c)) (shapeCast S1x4096x256 (wCol m c c))
/-- The block of device `c`'s result made of what `e` sent it. -/
def gotVal (e c : Dev nD) : FVec F S1x512x256 .f32 := k0_pay10 (shapeCast S1x512x256 (blkVal m e c))

/-! ## The schedule -/

def barPay (c : Dev nD) (k : Fin 7) : sProp 𝕄 := iprop(∃ X, owns (tgt k c : Thread nD τ) (rcvM k) fullShare X)
def sndPay (c : Dev nD) (k : Fin 7) : sProp 𝕄 := iprop(∃ X, owns (c : Thread nD τ) (sndM k) fullShare X)
def rcvPay (c : Dev nD) (k : Fin 7) : sProp 𝕄 := owns (c : Thread nD τ) (rcvM k) fullShare (blkVal m (src k c) c)

instance barPay_storable (c : Dev nD) (k : Fin 7) : BI.Storable (upEmb : UEmb _ 𝕄) (barPay (F := F) c k) := by unfold barPay; infer_instance
instance sndPay_storable (c : Dev nD) (k : Fin 7) : BI.Storable (upEmb : UEmb _ 𝕄) (sndPay (F := F) c k) := by unfold sndPay; infer_instance
instance rcvPay_storable (c : Dev nD) (k : Fin 7) : BI.Storable (upEmb : UEmb _ 𝕄) (rcvPay (F := F) m c k) := by unfold rcvPay; infer_instance

def dutiesAt : Option CK → Finset (Fin 7)
  | some none => Finset.univ
  | some (some _) => {0}
  | none => ∅

def amountAt : Option CK → ℕ
  | some (some _) => N
  | _ => 1

def payAt (c : Dev nD) : Option CK → Fin 7 → sProp 𝕄
  | some none, d => barPay c d
  | some (some (false, k)), _ => sndPay c k
  | some (some (true, k)), _ => rcvPay m c k
  | none, _ => iprop(emp)

instance payAt_storable (c : Dev nD) (o : Option CK) (d : Fin 7) : BI.Storable (upEmb : UEmb _ 𝕄) (payAt (F := F) m c o d) := by
  rcases o with _ | _ | ⟨_ | _, k⟩ <;> unfold payAt <;> infer_instance

/-- One round per cell: a barrier's seven signals of one unit each, a copy's one credit of a block. -/
def xchg : Rounds.Schedule (GSem nD τ sig) (Fin 7) 𝕄 where
  duties g r := if r = 0 ∧ g.1.2 = .tc then dutiesAt (kindOf g.2) else ∅
  unitless _ := False
  amount g _ _ := amountAt (kindOf g.2)
  payload g _ d := payAt m g.1.1 (kindOf g.2) d
  amount_pos g _ _ _ := by
    rcases kindOf g.2 with _ | _ | _
    · exact Nat.one_pos
    · exact Nat.one_pos
    · exact N_pos

instance xchg_storable (g : GSem nD τ sig) (r : ℕ) (d : Fin 7) : BI.Storable (upEmb : UEmb _ 𝕄) ((xchg (F := F) m).payload g r d) :=
  payAt_storable m g.1.1 (kindOf g.2) d

theorem duties_at (c : Dev nD) (ck : CK) : (xchg (F := F) m).duties (kcell (c, ck)) 0 = dutiesAt (some ck) := by
  dsimp only [xchg]; rw [if_pos ⟨rfl, rfl⟩, kindOf_cell]
theorem duties_later (g : GSem nD τ sig) : ∀ r, 1 ≤ r → (xchg (F := F) m).duties g r = ∅ :=
  fun r hr => by dsimp only [xchg]; rw [if_neg fun h => by omega]
theorem amount_at (c : Dev nD) (ck : CK) (d : Fin 7) : (xchg (F := F) m).amount (kcell (c, ck)) 0 d = amountAt (some ck) := by
  dsimp only [xchg]; rw [kindOf_cell]
theorem payload_at (c : Dev nD) (ck : CK) (d : Fin 7) : (xchg (F := F) m).payload (kcell (c, ck)) 0 d = payAt m c (some ck) d := by
  dsimp only [xchg]; rw [kindOf_cell]

theorem duties_bar (c : Dev nD) : (xchg (F := F) m).duties (barCell c) 0 = Finset.univ := duties_at m c none
theorem duties_snd (c : Dev nD) (k : Fin 7) : (xchg (F := F) m).duties (sndCell c k) 0 = {0} := duties_at m c (some (false, k))
theorem duties_rcv (c : Dev nD) (k : Fin 7) : (xchg (F := F) m).duties (rcvCell c k) 0 = {0} := duties_at m c (some (true, k))
theorem amount_bar (c : Dev nD) (d : Fin 7) : (xchg (F := F) m).amount (barCell c) 0 d = 1 := amount_at m c none d
theorem amount_snd (c : Dev nD) (k d : Fin 7) : (xchg (F := F) m).amount (sndCell c k) 0 d = N := amount_at m c (some (false, k)) d
theorem amount_rcv (c : Dev nD) (k d : Fin 7) : (xchg (F := F) m).amount (rcvCell c k) 0 d = N := amount_at m c (some (true, k)) d
theorem payload_bar (c : Dev nD) (d : Fin 7) : (xchg (F := F) m).payload (barCell c) 0 d = barPay c d := payload_at m c none d
theorem payload_snd (c : Dev nD) (k d : Fin 7) : (xchg (F := F) m).payload (sndCell c k) 0 d = sndPay c k := payload_at m c (some (false, k)) d
theorem payload_rcv (c : Dev nD) (k d : Fin 7) : (xchg (F := F) m).payload (rcvCell c k) 0 d = rcvPay m c k := payload_at m c (some (true, k)) d

theorem expect_bar (c : Dev nD) : (xchg (F := F) m).expect (barCell c) 0 = 7 := by
  unfold Schedule.expect Schedule.amountOf
  rw [show barCell c = kcell (c, none) from rfl, duties_at, Finset.sum_congr rfl fun d _ => amount_at m c none d]
  rfl
theorem expect_copy (c : Dev nD) (p : Bool × Fin 7) : (xchg (F := F) m).expect (kcell (c, some p)) 0 = N := by
  unfold Schedule.expect Schedule.amountOf
  rw [duties_at, Finset.sum_congr rfl fun d _ => amount_at m c (some p) d]
  exact Finset.sum_singleton _ _

theorem rest_bar (c : Dev nD) : bigSep ((xchg (F := F) m).duties (barCell c) 0 \ ∅) (fun d => (xchg (F := F) m).payload (barCell c) 0 d)
    = bigSep Finset.univ (fun k : Fin 7 => barPay c k) := by
  rw [Finset.sdiff_empty, show barCell c = kcell (c, none) from rfl, duties_at]
  exact bigSep_congr fun d _ => payload_at m c none d
theorem rest_copy (c : Dev nD) (p : Bool × Fin 7) :
    bigSep ((xchg (F := F) m).duties (kcell (c, some p)) 0 \ ∅) (fun d => (xchg (F := F) m).payload (kcell (c, some p)) 0 d) = payAt m c (some (some p)) 0 := by
  rw [Finset.sdiff_empty, duties_at, show dutiesAt (some (some p)) = {0} from rfl, bigSep_singleton, payload_at]

/-! ## What a device owes -/

/-- The terms from the `n`-th on. -/
def tailSum {A : Type} [AddCommMonoid A] (f : Fin 7 → A) (n : ℕ) : A := ∑ i : Fin 7, if n ≤ i.val then f i else 0

theorem tailSum_peel {A : Type} [AddCommMonoid A] (f : Fin 7 → A) (j : Fin 7) : tailSum f j.val = tailSum f (j.val + 1) + f j := by
  unfold tailSum
  rw [← Finset.sum_erase_add (f := fun i : Fin 7 => if j.val ≤ i.val then f i else 0) (a := j) _ (Finset.mem_univ j), if_pos le_rfl, ← Finset.sum_erase_add (f := fun i : Fin 7 => if j.val + 1 ≤ i.val then f i else 0) (a := j) _ (Finset.mem_univ j),
    if_neg (by omega), add_zero]
  congr 1
  refine Finset.sum_congr rfl fun i hi => ?_
  have hne : i.val ≠ j.val := fun h => Finset.ne_of_mem_erase hi (Fin.ext h)
  by_cases h : j.val ≤ i.val
  · rw [if_pos h, if_pos (by omega)]
  · rw [if_neg h, if_neg (by omega)]

theorem tailSum_end {A : Type} [AddCommMonoid A] (f : Fin 7 → A) : tailSum f 7 = 0 :=
  Finset.sum_eq_zero fun i _ => if_neg (by omega)

/-- What device `c` owes after `n` signals and `k` sends. -/
def owed (n k : ℕ) (c : Dev nD) : CellTallies nD τ sig Unit :=
  tailSum (fun j => tallyAt (barCell (sgn j c)) () 1) n + tailSum (fun k => tallyAt (rcvCell (tgt k c) k) () N) k

theorem owed_signal (c : Dev nD) (j : Fin 7) : owed j.val 0 c = owed (j.val + 1) 0 c + tallyAt (barCell (sgn j c)) () 1 := by
  unfold owed; rw [tailSum_peel _ j]; exact add_right_comm _ _ _
theorem owed_send (c : Dev nD) (k : Fin 7) : owed 7 k.val c = owed 7 (k.val + 1) c + tallyAt (rcvCell (tgt k c) k) () N := by
  unfold owed; rw [tailSum_peel _ k]; exact (add_assoc _ _ _).symm
theorem owed_end (c : Dev nD) : owed 7 7 c = 0 := by
  unfold owed; rw [tailSum_end, tailSum_end]; exact add_zero _

theorem tailSum_pos {f : Fin 7 → CellTallies nD τ sig Unit} {n : ℕ} {g : GSem nD τ sig} {u : Unit} (h : 0 < tailSum f n g u) :
    ∃ j, n ≤ j.val ∧ 0 < f j g u := by
  unfold tailSum at h
  rw [Finset.sum_apply, Finsupp.finset_sum_apply] at h
  obtain ⟨j, -, hj⟩ := Finset.exists_ne_zero_of_sum_ne_zero (Nat.pos_iff_ne_zero.mp h)
  by_cases hn : n ≤ j.val
  · rw [if_pos hn] at hj; exact ⟨j, hn, Nat.pos_of_ne_zero hj⟩
  · rw [if_neg hn] at hj; exact absurd rfl hj

theorem tallyAt_pos {g g' : GSem nD τ sig} {u : Unit} {a : ℕ} (h : 0 < tallyAt g () a g' u) : g' = g := by
  rw [tallyAt_apply] at h
  by_contra hne
  rw [if_neg fun h' => hne h'.1] at h
  exact Nat.lt_irrefl 0 h

/-- Whatever a device owes, it owes to some device's barrier (while signals remain) or receive cell. -/
theorem owed_pos {n k : ℕ} {c : Dev nD} {g : GSem nD τ sig} {u : Unit} (h : 0 < owed n k c g u) :
    (n < 7 ∧ ∃ e, g = kcell (e, none)) ∨ ∃ e j, g = kcell (e, some (true, j)) := by
  unfold owed at h
  rw [Pi.add_apply, Finsupp.add_apply] at h
  rcases Nat.pos_of_ne_zero (Nat.pos_iff_ne_zero.mp h) |> Nat.add_pos_iff_pos_or_pos.mp with h | h
  · obtain ⟨j, hj, hp⟩ := tailSum_pos h
    exact Or.inl ⟨by omega, _, tallyAt_pos hp⟩
  · obtain ⟨j, hj, hp⟩ := tailSum_pos h
    exact Or.inr ⟨_, _, tallyAt_pos hp⟩

/-! ## Levels: a wait is below everything its device still owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def levelAt : Option CK → ℕ
  | some none => 1
  | some (some (true, _)) => 2
  | _ => 0

def lv (g : GSem nD τ sig) (_ : Unit) : ℕ := levelAt (kindOf g.2)

theorem lv_cell (c : Dev nD) (ck : CK) (u : Unit) : lv (kcell (c, ck)) u = levelAt (some ck) := by
  show levelAt (kindOf (cellSem ck)) = _; rw [kindOf_cell]

/-- A semaphore none of whose waits is for another device. -/
def Local (sm : SemLoc sig) : Prop := ∀ ck : CK, cellSem ck ≠ sm

theorem tileS_local : ∀ s : Fin 2, Local (.dma (tileS s)) := by unfold Local; decide
theorem stageS_local : ∀ s : Fin 2, Local (.dma (stageS s)) := by unfold Local; decide

/-- Waits on such a semaphore are allowed whatever the device owes. -/
theorem mayWait_local (c : Dev nD) (n k : ℕ) {q : DmaSem sig} (hq : Local (.dma q)) :
    (levAts L lv : sProp 𝕄) ⊢ MayWait (c : Thread nD τ) (.dma q) () (owed n k c) := by
  refine MayOwe.of_cut (L := L) (lev := lv) 0 (fun p hp => by rw [Finset.mem_singleton.mp hp, L_tc]; exact Finset.mem_singleton_self _)
      (fun g u hg => ?_) (fun p hp => ?_) (fun g u hg => ?_)
  · rcases owed_pos hg with ⟨-, e, rfl⟩ | ⟨e, j, rfl⟩ <;> exact Finset.mem_singleton_self _
  · rw [Finset.mem_singleton.mp hp]
    show levelAt (kindOf (.dma q)) ≤ 0
    rw [show kindOf (.dma q) = none from preimage?_eq_none hq]
    exact le_rfl
  · rcases owed_pos hg with ⟨-, e, rfl⟩ | ⟨e, j, rfl⟩
    · rw [lv_cell]; decide
    · rw [lv_cell]; exact Nat.succ_pos 1

/-- At its barrier wait a device has given all its signals, and owes blocks only. -/
theorem mayWait_bar (c : Dev nD) (k : ℕ) : (levAts L lv : sProp 𝕄) ⊢ MayWait (c : Thread nD τ) (.reg barS) () (owed 7 k c) := by
  refine MayOwe.of_cut (L := L) (lev := lv) 1 (fun p hp => by rw [Finset.mem_singleton.mp hp, L_tc]; exact Finset.mem_singleton_self _)
      (fun g u hg => ?_) (fun p hp => ?_) (fun g u hg => ?_)
  · rcases owed_pos hg with ⟨h, -⟩ | ⟨e, j, rfl⟩
    · exact absurd h (Nat.lt_irrefl 7)
    · exact Finset.mem_singleton_self _
  · rw [Finset.mem_singleton.mp hp, show ((c : Thread nD τ), SemLoc.reg barS) = kcell (c, none) from rfl, lv_cell]
    exact le_rfl
  · rcases owed_pos hg with ⟨h, -⟩ | ⟨e, j, rfl⟩
    · exact absurd h (Nat.lt_irrefl 7)
    · rw [lv_cell]; exact Nat.lt_succ_self 1

end Cert.AllToAll

end
-- ==== Proof.Exchange.lean ====
/-
# The steps of the exchange

One rule per effect that involves another device: a barrier signal, the barrier wait, a block sent, the wait for a send
and the wait for a block. Each is stated for a slot `k` and any device; a cell whose one round is over is closed at once,
so its counter at zero is the device's again.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- What every device may use of the exchange: all cells' invariants, and that every cell is at its first round. -/
def records : sProp 𝕄 :=
  iprop((bigSep Finset.univ fun p : Dev nD × CK => cellInv ER (xchg m) (K p) (kcell p))
    ∗ bigSep Finset.univ fun p : Dev nD × CK => reached ER (kcell p) 0)

instance records_persistent : BI.Persistent (records m K) := by unfold records; infer_instance

theorem records_inv (p : Dev nD × CK) : records m K ⊢ cellInv ER (xchg m) (K p) (kcell p) := by
  unfold records; iintro ⟨H, -⟩
  iapply (show (bigSep Finset.univ fun p : Dev nD × CK => (cellInv ER (xchg m) (K p) (kcell p) : sProp 𝕄)) ⊢ cellInv ER (xchg m) (K p) (kcell p)
    from bigSep_elim (Finset.mem_univ p)) $$ H
theorem records_reached (p : Dev nD × CK) : records m K ⊢ reached ER (kcell p) 0 := by
  unfold records; iintro ⟨-, H⟩
  iapply (show (bigSep Finset.univ fun p : Dev nD × CK => (reached ER (kcell p) 0 : sProp 𝕄)) ⊢ reached ER (kcell p) 0
    from bigSep_elim (Finset.mem_univ p)) $$ H

section Steps

variable {α : Type}

/-- What device `c` hands over with its `j`-th signal: the token of the duty it pays, and its receive slot. -/
def signalRes (c : Dev nD) (j : Fin 7) : sProp 𝕄 :=
  iprop(dutyTok ER (barCell (sgn j c)) 0 (slotOf j c) ∗ ∃ X, owns (c : Thread nD τ) (rcvM (slotOf j c)) fullShare X)

/-- The `j`-th barrier signal. -/
theorem step_signal (c e : Dev nD) (j : Fin 7) (he : e = sgn j c) {a : ℕ} (ha : a = 1) {k : PUnit → Prog (TpuEff nD τ sig (Elt F) Λ₀ .tc) α} {Q : α → sProp 𝕄} :
    records m K ⊢ iprop(signalRes c j -∗ ow c (owed j.val 0 c) -∗ (ow c (owed (j.val + 1) 0 c) -∗ run c (k ⟨⟩) Q)
        -∗ run c (.op (.semSignal (e : Thread nD τ) barS a) k) Q) := by
  subst he ha
  unfold signalRes ow
  iintro #HR ⟨Htok, Hslot⟩ ⟨%W, HO⟩ Hk
  iapply (Rounds.wp_signal 𝒱₀ ER (xchg m) (c : Thread nD τ) none (dst := (sgn j c : Thread nD τ)) (κ := K (sgn j c, none))
      (d := slotOf j c) (by rw [duties_bar]; exact Finset.mem_univ _) (amount_bar m (sgn j c) (slotOf j c)) () (owed (j.val + 1) 0 c) (owed_signal c j) (W := W)) $$ [HO Htok Hslot]
  · isplitr; · iapply (records_inv m K (sgn j c, none)); iexact HR
    isplitl [HO]; · iexact HO
    isplitl [Htok]; · iexact Htok
    isplitl [Hslot]
    · rw [payload_bar]; unfold barPay; rw [tgt_slotOf]; iexact Hslot
    · iapply (records_reached m K (sgn j c, none)); iexact HR
  iintro HO
  iapply Hk
  iexists W; iexact HO

/-- The barrier wait: the receive slots of the seven devices sent to. -/
theorem step_barrier (c : Dev nD) {a : ℕ} (ha : a = 7) {k : PUnit → Prog (TpuEff nD τ sig (Elt F) Λ₀ .tc) α} {Q : α → sProp 𝕄} :
    records m K ⊢ iprop(levAts L lv -∗ cred (tallyAt (barCell c) () 7) -∗ atPos ER (barCell c) 0 ∅ 0 -∗ ow c (owed 7 0 c)
        -∗ ((ow c (owed 7 0 c) ∗ semVal (barCell c) 0 ∗ bigSep Finset.univ (fun k : Fin 7 => barPay c k)) -∗ run c (k ⟨⟩) Q)
        -∗ run c (.op (.semWait barS a) k) Q) := by
  subst ha
  unfold ow
  iintro #HR #Hlev Hc Hat ⟨%W, HO⟩ Hk
  iapply (Rounds.wp_wait_rest_token 𝒱₀ ER (xchg m) (c : Thread nD τ) none (κ := K (c, none))
      (wpE_semWait_eq 𝒱₀ (c : Thread nD τ) none Set.univ) (Set.mem_univ _) () (O := owed 7 0 c) (W := W) (R := 0) (m := 0) (T := ∅)
      (by rw [expect_bar])) $$ [Hc HO Hat]
  · isplitr; · iapply (records_inv m K (c, none)); iexact HR
    isplitl [Hc]; · iexact Hc
    isplitl [HO]; · iexact HO
    isplitr; · iapply (mayWait_bar c 0); iexact Hlev
    iexact Hat
  iintro ⟨HO, Hat, -, Hpay⟩
  ihave Hp := (Entails.of_eq (rest_bar m c)) $$ Hpay
  imod (Rounds.cell_close ER (xchg m) (Set.mem_univ (K (c, none))) (fun h => h) (R := 0 + 1) (duties_later m (barCell c))) $$ [Hat] with Hz
  · isplitr; · iapply (records_inv m K (c, none)); iexact HR
    iexact Hat
  iapply Hk
  isplitl [HO]; · iexists _; iexact HO
  isplitl [Hz]; · iexact Hz
  iexact Hp

/-- What device `c` needs to send slot `k`, besides the two slots. -/
def sendToks (c : Dev nD) (k : Fin 7) : sProp 𝕄 :=
  iprop(dutyTok ER (sndCell c k) 0 0 ∗ dutyTok ER (rcvCell (tgt k c) k) 0 0)

/-- Slot `k` sent: its block leaves for `tgt k c`'s receive slot. -/
theorem step_send (c e : Dev nD) (i : Fin 7) (he : e = tgt i c)
    {hsc : (rcvM i : Memref sig (Dev.tc e : Thread nD τ).2.kind .vmem S512x256 .bf16).view.ref.isScScratch = false}
    {hsrc : (sndM i).view.WordExact} {hdst : (rcvM i).view.WordExact}
    {hsem : DmaTarget.Typed .vmem (.dma (rcvS i)) (.remote (Dev.tc e : Thread nD τ) (rcvM i) (.dma (sndS i)) hsc : DmaTarget nD τ sig .tc .vmem S512x256 .bf16)}
    {k : PUnit → Prog (TpuEff nD τ sig (Elt F) Λ₀ .tc) α} {Q : α → sProp 𝕄} :
    records m K ⊢ iprop(sendToks c i -∗ owns (c : Thread nD τ) (sndM i) fullShare (blkVal m c (tgt i c)) -∗ barPay c i -∗ ow c (owed 7 i.val c)
        -∗ ((cred (tallyAt (sndCell c i) () N) ∗ ow c (owed 7 (i.val + 1) c)) -∗ run c (k ⟨⟩) Q)
        -∗ run c (.op (.enqueueDma (sndM i) (.remote (Dev.tc e : Thread nD τ) (rcvM i) (.dma (sndS i)) hsc) (.dma (rcvS i)) hsrc hdst hsem) k) Q) := by
  subst he
  unfold sendToks ow barPay
  iintro #HR ⟨HtS, HtV⟩ Hs ⟨%Y, Hd⟩ ⟨%W, HO⟩ Hk
  ihave Hs' := (show owns (c : Thread nD τ) (sndM i) fullShare (blkVal m c (tgt i c)) ⊢ iprop(∃ f, ⌜(sndM i).view.read (Elt F) f = blkVal m c (tgt i c)⌝ ∗ ((sndM i).view.loc (c : Thread nD τ) ↦[(sndM i).view.set]{fullShare} f)) from .rfl) $$ Hs
  ihave Hd' := (show owns (tgt i c : Thread nD τ) (rcvM i) fullShare Y ⊢ iprop(∃ f, ⌜(rcvM i).view.read (Elt F) f = Y⌝ ∗ ((rcvM i).view.loc (tgt i c : Thread nD τ) ↦[(rcvM i).view.set]{fullShare} f)) from .rfl) $$ Hd
  icases Hs' with ⟨%fs, %hs, Hs'⟩
  icases Hd' with ⟨%fd, %hd, Hd'⟩
  have hpay₁ : ((sndM i).view.loc (c : Thread nD τ) ↦[(sndM i).view.set]{fullShare} fs) ⊢ (xchg m).payload (sndCell c i) 0 0 := by
    rw [payload_snd]; unfold sndPay
    iintro H; iexists _; iapply (owns_intro (c : Thread nD τ) (sndM i) fullShare fs); iexact H
  have hpay₂ : ((rcvM i).view.loc (tgt i c : Thread nD τ) ↦[(rcvM i).view.set]{fullShare}
      ((rcvM i).view.write (Elt F) fd ((sndM i).view.read (Elt F) fs) Finset.univ)) ⊢ (xchg m).payload (rcvCell (tgt i c) i) 0 0 := by
    rw [payload_rcv]; unfold rcvPay
    rw [src_tgt, ← hs]
    unfold owns
    iintro H; iexists (rcvM i).view.write (Elt F) fd ((sndM i).view.read (Elt F) fs) Finset.univ
    isplitr
    · ipureintro; exact View.read_write_univ _ _
    · iexact H
  iapply (Rounds.wp_send_pointsTo 𝒱₀ ER (xchg m) (c : Thread nD τ) none (c' := (tgt i c : Thread nD τ)) (src := sndM i) (dst := rcvM i)
    (sS := .dma (sndS i)) (sem := .dma (rcvS i)) (κ₁ := K (c, some (false, i))) (κ₂ := K (tgt i c, some (true, i)))
    (r₁ := 0) (r₂ := 0) (d₁ := 0) (d₂ := 0) (fs := fs) (fd := fd)
    (by rw [duties_snd]; exact Finset.mem_singleton_self _) (by rw [duties_rcv]; exact Finset.mem_singleton_self _)
    () () N (credit_rcv i) (amount_snd m c i 0) (amount_rcv m (tgt i c) i 0) (owed 7 (i.val + 1) c) (owed_send c i) (W := W)
    hpay₁ hpay₂) $$ [Hs' Hd' HO HtS HtV]
  · isplitr; · iapply (records_inv m K (c, some (false, i))); iexact HR
    isplitr; · iapply (records_inv m K (tgt i c, some (true, i))); iexact HR
    isplitl [Hs']; · iexact Hs'
    isplitl [Hd']; · iexact Hd'
    isplitl [HO]; · iexact HO
    isplitl [HtS]; · iexact HtS
    isplitr; · iapply (records_reached m K (c, some (false, i))); iexact HR
    isplitl [HtV]; · iexact HtV
    iapply (records_reached m K (tgt i c, some (true, i))); iexact HR
  iintro ⟨Hc, HO⟩
  iapply Hk
  isplitl [Hc]; · iexact Hc
  iexists W; iexact HO

/-- The wait for a copy's credit, a send's or a landing's: what its cell hands over, the cell closed. -/
theorem step_copied (c : Dev nD) (p : Bool × Fin 7) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (cellSem (some p)) N R)
    {k : PUnit → Prog (TpuEff nD τ sig (Elt F) Λ₀ .tc) α} {Q : α → sProp 𝕄} :
    records m K ⊢ iprop(cred (tallyAt (kcell (c, some p)) () N) -∗ atPos ER (kcell (c, some p)) 0 ∅ 0 -∗ ow c (owed 7 7 c)
        -∗ ((ow c (owed 7 7 c) ∗ semVal (kcell (c, some p)) 0 ∗ payAt m c (some (some p)) 0) -∗ run c (k ⟨⟩) Q)
        -∗ run c (.op w k) Q) := by
  unfold ow
  rw [owed_end]
  iintro #HR Hc Hat ⟨%W, HO⟩ Hk
  iapply (Rounds.wp_wait_rest_token 𝒱₀ ER (xchg m) (c : Thread nD τ) none (κ := K (c, some p))
      hw (Set.mem_univ _) () (O := 0) (W := W) (R := 0) (m := 0) (T := ∅)
      ((Nat.zero_add _).trans (expect_copy m c p).symm)) $$ [Hc HO Hat]
  · isplitr; · iapply (records_inv m K (c, some p)); iexact HR
    isplitl [Hc]; · iexact Hc
    isplitl [HO]; · iexact HO
    isplitr; · rw [MayWait_zero]; iempintro
    iexact Hat
  iintro ⟨HO, Hat, -, Hpay⟩
  ihave Hp := (Entails.of_eq (rest_copy m c p)) $$ Hpay
  imod (Rounds.cell_close ER (xchg m) (Set.mem_univ (K (c, some p))) (fun h => h) (R := 0 + 1) (duties_later m (kcell (c, some p)))) $$ [Hat] with Hz
  · isplitr; · iapply (records_inv m K (c, some p)); iexact HR
    iexact Hat
  iapply Hk
  isplitl [HO]; · iexists _; iexact HO
  isplitl [Hz]; · iexact Hz
  iexact Hp

/-- The wait for the send of slot `k`: the slot back. -/
theorem step_sent (c : Dev nD) (i : Fin 7) {sp' : Space} {s' : Shape} {e' : EltTy} {A : Memref sig .tc sp' s' e'}
    {hsrc : A.view.WordExact} {hdst : (sndM i).view.WordExact} {k : PUnit → Prog (TpuEff nD τ sig (Elt F) Λ₀ .tc) α} {Q : α → sProp 𝕄} :
    records m K ⊢ iprop(cred (tallyAt (sndCell c i) () N) -∗ atPos ER (sndCell c i) 0 ∅ 0 -∗ ow c (owed 7 7 c)
        -∗ ((ow c (owed 7 7 c) ∗ semVal (sndCell c i) 0 ∗ sndPay c i) -∗ run c (k ⟨⟩) Q)
        -∗ run c (.op (.waitDma2 (sndS i) A (sndM i) hsrc hdst) k) Q) :=
  step_copied m K c (false, i) fun R => (wpE_waitDma2_eq 𝒱₀ (c : Thread nD τ) none Set.univ R).trans (by rw [credit_snd]; rfl)

/-- The wait for the block landing in slot `k`. -/
theorem step_received (c : Dev nD) (i : Fin 7) {sp' : Space} {s' : Shape} {e' : EltTy} {A : Memref sig .tc sp' s' e'}
    {hsrc : A.view.WordExact} {hdst : (rcvM i).view.WordExact} {k : PUnit → Prog (TpuEff nD τ sig (Elt F) Λ₀ .tc) α} {Q : α → sProp 𝕄} :
    records m K ⊢ iprop(cred (tallyAt (rcvCell c i) () N) -∗ atPos ER (rcvCell c i) 0 ∅ 0 -∗ ow c (owed 7 7 c)
        -∗ ((ow c (owed 7 7 c) ∗ semVal (rcvCell c i) 0 ∗ owns (c : Thread nD τ) (rcvM i) fullShare (blkVal m (src i c) c)) -∗ run c (k ⟨⟩) Q)
        -∗ run c (.op (.waitDma2 (rcvS i) A (rcvM i) hsrc hdst) k) Q) :=
  step_copied m K c (true, i) fun R => (wpE_waitDma2_eq 𝒱₀ (c : Thread nD τ) none Set.univ R).trans (by rw [credit_rcv]; rfl)

end Steps

end Cert.AllToAll

end
-- ==== Proof.Phases.lean ====
/-
# The phases of the kernel

The kernel is a handful of phases, each repeated over slots: fetch a column block of the weights; wait for it, multiply,
and leave the block in a send slot; or, for the device's own block, leave it in the stage and start it towards the
result; wait for a block from another device and do the same with it. Each phase is proved here once, for any slot and
any device.
-/
module

public import proofs.«01_k».proof.Proof.Exchange

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## What a slot of the two double buffers is doing -/

/-- Slot `s` of the weights' buffer, free. -/
def tileFree (c : Dev nD) (s : Fin 2) : sProp 𝕄 :=
  iprop((∃ X, owns (c : Thread nD τ) (tileM s) fullShare X) ∗ semVal ((c : Thread nD τ), .dma (tileS s)) 0)
/-- Slot `s` of the stage, free. -/
def stageFree (c : Dev nD) (s : Fin 2) : sProp 𝕄 :=
  iprop((∃ X, owns (c : Thread nD τ) (stageM s) fullShare X) ∗ semVal ((c : Thread nD τ), .dma (stageS s)) 0)
/-- Column block `t` of device `c`'s weights. -/
def colHas (c t : Dev nD) : sProp 𝕄 := owns (c : Thread nD τ) (colM t) fullShare (wCol m c t)
/-- Row block `t` of device `c`'s result, holding `X`. -/
def rowHas (c t : Dev nD) (X : FVec F S512x256 .f32) : sProp 𝕄 := owns (c : Thread nD τ) (rowM t) fullShare X
/-- Row block `t`, holding anything. -/
def rowAny (c t : Dev nD) : sProp 𝕄 := iprop(∃ X, rowHas c t X)
/-- Column block `t` on its way into slot `s`. -/
def fetching (c t : Dev nD) (s : Fin 2) : sProp 𝕄 :=
  Transfers.Flight EC (c : Thread nD τ) (.dma (tileS s)) () (tileM s).view.dmaCredit
    iprop(owns (c : Thread nD τ) (tileM s) fullShare (wCol m c t) ∗ owns (c : Thread nD τ) (colM t) fullShare (wCol m c t))
/-- `X` on its way from slot `s` of the stage into row block `t`. -/
def leaving (c t : Dev nD) (s : Fin 2) (X : FVec F S512x256 .f32) : sProp 𝕄 :=
  Transfers.Flight EC (c : Thread nD τ) (.dma (stageS s)) () (rowM t).view.dmaCredit
    iprop(owns (c : Thread nD τ) (rowM t) fullShare X ∗ owns (c : Thread nD τ) (stageM s) fullShare X)

/-- What device `c` leaves in its own row block. -/
def ownRow (c : Dev nD) : FVec F S512x256 .f32 := shapeCast S512x256 (ownVal m c)
/-- What it leaves in row block `e`, made of what `e` sent. -/
def gotRow (e c : Dev nD) : FVec F S512x256 .f32 := shapeCast S512x256 (gotVal m e c)

theorem colM_of {off : Fin 2 → ℕ} {t : Dev nD} (h : off = colOff t) (inb : ∀ a, off a + S4096x256.size a ≤ S4096x2048.size a) :
    ((Memref.whole main_arg1).slice (Rect.unit (s := S4096x2048) off S4096x256.size inb) (fun _ => rfl) : Memref sig .tc .hbm S4096x256 .f32) = colM t := by
  subst h; rfl
theorem rowM_of {off : Fin 2 → ℕ} {t : Dev nD} (h : off = rowOff t) (inb : ∀ a, off a + S512x256.size a ≤ S4096x256.size a) :
    ((Memref.whole main_v1).slice (Rect.unit (s := S4096x256) off S512x256.size inb) (fun _ => rfl) : Memref sig .tc .hbm S512x256 .f32) = rowM t := by
  subst h; rfl

section Phases

variable {α : Type}

/-- Start fetching column block `t` into a free slot. -/
theorem phase_fetch (c t : Dev nD) (s : Fin 2) {A : Memref sig .tc .hbm S4096x256 .f32} (hA : A = colM t)
    {hsrc : A.view.WordExact} {hdst : (tileM s).view.WordExact}
    {hsem : DmaTarget.Typed .hbm (.dma (tileS s)) (DmaTarget.here (tileM s) : DmaTarget nD τ sig .tc .vmem S4096x256 .f32)}
    {k : PUnit → Prog (TpuEff nD τ sig (Elt F) Λ₀ .tc) α} {Q : α → sProp 𝕄} :
    (tileFree c s : sProp 𝕄) ⊢ iprop(colHas m c t -∗ (fetching m c t s -∗ run c (k ⟨⟩) Q)
        -∗ run c (.op (.enqueueDma A (.here (tileM s)) (.dma (tileS s)) hsrc hdst hsem) k) Q) := by
  unfold tileFree colHas fetching
  iintro ⟨⟨%X, Ht⟩, Hv⟩ Hc Hk
  iapply (copy_issue c hA (B := tileM s) (B' := tileM s) rfl (sm := tileS s) (Y := X) (by decide)) $$ Hc Ht Hv
  iexact Hk

/-- Wait for a fetch, multiply, and leave the block in send slot `i`. -/
theorem phase_block (c t : Dev nD) (s : Fin 2) (i : Fin 7) {n l : ℕ} {A : Memref sig .tc .hbm S4096x256 .f32}
    {hsrc : A.view.WordExact} {hdst : (tileM s).view.WordExact}
    {hl : (Memref.whole cc0_scratch2 : Memref sig .tc .vmem S2x4096x256 .f32).view.LoadsAt (tileR s).toLoadRect}
    {hl' : (Memref.whole cc0_scratch0 : Memref sig .tc .vmem S7x512x256 .bf16).view.LoadsAt (slotR i).toLoadRect}
    {hx : ((Memref.whole cc0_scratch0 : Memref sig .tc .vmem S7x512x256 .bf16).access (slotR i)).Stores Finset.univ}
    {hm : (Finset.univ : Finset (slotR i).shape.Idx) = Finset.univ ∨ ∀ a, (slotR i).stride a = 1}
    {k : Prog (TpuEff nD τ sig (Elt F) Λ₀ .tc) α} {Q : α → sProp 𝕄} :
    (fetching m c t s : sProp 𝕄) ⊢ iprop(levAts L lv -∗ ow c (owed n l c) -∗ sndPay c i
        -∗ ((ow c (owed n l c) ∗ tileFree c s ∗ colHas m c t ∗ owns (c : Thread nD τ) (sndM i) fullShare (blkVal m c t)) -∗ run c k Q)
        -∗ run c (.op (.waitDma2 (tileS s) A (tileM s) hsrc hdst) fun _ =>
            .op (.load (Memref.whole cc0_scratch2 : Memref sig .tc .vmem S2x4096x256 .f32) (tileR s).toLoadRect hl) fun x =>
            .op (.load (Memref.whole cc0_scratch0 : Memref sig .tc .vmem S7x512x256 .bf16) (slotR i).toLoadRect hl') fun _ =>
            .op (.store (Memref.whole cc0_scratch0 : Memref sig .tc .vmem S7x512x256 .bf16) (slotR i) (k0_pay2 (k0_pay1 (xBlk m c)) x) Finset.univ hx hm) fun _ => k) Q) := by
  unfold fetching sndPay tileFree colHas
  iintro HF #Hlev HO ⟨%X, Hs⟩ Hk
  iapply (copy_wait c rfl (mayWait_local c n l (tileS_local s))) $$ HF Hlev HO
  iintro ⟨⟨Ht, Hc⟩, Hv, HO⟩
  iapply (load_slot c (hr := fun _ => rfl) (t := S4096x256) (hq := squeezes_S1x4096x256_S4096x256)) $$ Ht; iintro Ht
  iapply (load_slot c (hr := fun _ => rfl) (t := S512x256) (hq := squeezes_S1x512x256_S512x256)) $$ Hs; iintro Hs
  iapply (store_slot c (hr := fun _ => rfl) (t := S512x256) (hq := squeezes_S1x512x256_S512x256)) $$ Hs; iintro Hs
  iapply Hk
  isplitl [HO]; · iexact HO
  isplitl [Ht Hv]
  · isplitl [Ht]; · iexists _; iexact Ht
    iexact Hv
  isplitl [Hc]; · iexact Hc
  iexact Hs

/-- Wait for a fetch, multiply, leave the block in the stage and start it towards the device's own row block. -/
theorem phase_own (c : Dev nD) (s s' : Fin 2) {n l : ℕ} {A : Memref sig .tc .hbm S4096x256 .f32} {B : Memref sig .tc .hbm S512x256 .f32} (hB : B = rowM c)
    {hsrc : A.view.WordExact} {hdst : (tileM s).view.WordExact}
    {hl : (Memref.whole cc0_scratch2 : Memref sig .tc .vmem S2x4096x256 .f32).view.LoadsAt (tileR s).toLoadRect}
    {hl' : (Memref.whole cc0_scratch3 : Memref sig .tc .vmem S2x512x256 .f32).view.LoadsAt (stageR s').toLoadRect}
    {hx : ((Memref.whole cc0_scratch3 : Memref sig .tc .vmem S2x512x256 .f32).access (stageR s')).Stores Finset.univ}
    {hm : (Finset.univ : Finset (stageR s').shape.Idx) = Finset.univ ∨ ∀ a, (stageR s').stride a = 1}
    {hsrc' : (stageM s').view.WordExact} {hdst' : B.view.WordExact}
    {hsem' : DmaTarget.Typed .vmem (.dma (stageS s')) (DmaTarget.here B : DmaTarget nD τ sig .tc .hbm S512x256 .f32)}
    {k : PUnit → Prog (TpuEff nD τ sig (Elt F) Λ₀ .tc) α} {Q : α → sProp 𝕄} :
    (fetching m c c s : sProp 𝕄) ⊢ iprop(levAts L lv -∗ ow c (owed n l c) -∗ stageFree c s' -∗ rowAny c c
        -∗ ((ow c (owed n l c) ∗ tileFree c s ∗ colHas m c c ∗ leaving c c s' (ownRow m c)) -∗ run c (k ⟨⟩) Q)
        -∗ run c (.op (.waitDma2 (tileS s) A (tileM s) hsrc hdst) fun _ =>
            .op (.load (Memref.whole cc0_scratch2 : Memref sig .tc .vmem S2x4096x256 .f32) (tileR s).toLoadRect hl) fun x =>
            .op (.load (Memref.whole cc0_scratch3 : Memref sig .tc .vmem S2x512x256 .f32) (stageR s').toLoadRect hl') fun _ =>
            .op (.store (Memref.whole cc0_scratch3 : Memref sig .tc .vmem S2x512x256 .f32) (stageR s') (k0_pay9 (k0_pay1 (xBlk m c)) x) Finset.univ hx hm) fun _ =>
            .op (.enqueueDma (stageM s') (.here B) (.dma (stageS s')) hsrc' hdst' hsem') k) Q) := by
  unfold fetching stageFree tileFree colHas rowAny rowHas leaving
  iintro HF #Hlev HO ⟨⟨%X, Hs⟩, Hv'⟩ ⟨%Y, Hr⟩ Hk
  iapply (copy_wait c rfl (mayWait_local c n l (tileS_local s))) $$ HF Hlev HO
  iintro ⟨⟨Ht, Hc⟩, Hv, HO⟩
  iapply (load_slot c (hr := fun _ => rfl) (t := S4096x256) (hq := squeezes_S1x4096x256_S4096x256)) $$ Ht; iintro Ht
  iapply (load_slot c (hr := fun _ => rfl) (t := S512x256) (hq := squeezes_S1x512x256_S512x256)) $$ Hs; iintro Hs
  iapply (store_slot c (hr := fun _ => rfl) (t := S512x256) (hq := squeezes_S1x512x256_S512x256)) $$ Hs; iintro Hs
  iapply (copy_issue c (A := stageM s') (A' := stageM s') rfl hB (sm := stageS s') (Y := Y) (by decide)) $$ Hs Hr Hv'
  iintro HL
  iapply Hk
  isplitl [HO]; · iexact HO
  isplitl [Ht Hv]
  · isplitl [Ht]; · iexists _; iexact Ht
    iexact Hv
  isplitl [Hc]; · iexact Hc
  iexact HL

/-- Wait for the block in receive slot `i` and read it. -/
theorem phase_read (c : Dev nD) (i : Fin 7) {A : Memref sig .tc .vmem S512x256 .bf16}
    {hsrc : A.view.WordExact} {hdst : (rcvM i).view.WordExact}
    {hl : (Memref.whole cc0_scratch1 : Memref sig .tc .vmem S7x512x256 .bf16).view.LoadsAt (slotR i).toLoadRect}
    {k : (S1x512x256.Idx → Elt F .bf16) → Prog (TpuEff nD τ sig (Elt F) Λ₀ .tc) α} {Q : α → sProp 𝕄} :
    records m K ⊢ iprop(cred (tallyAt (rcvCell c i) () N) -∗ atPos ER (rcvCell c i) 0 ∅ 0 -∗ ow c (owed 7 7 c)
        -∗ ((ow c (owed 7 7 c) ∗ semVal (rcvCell c i) 0 ∗ ∃ X, owns (c : Thread nD τ) (rcvM i) fullShare X)
          -∗ run c (k (shapeCast S1x512x256 (blkVal m (src i c) c))) Q)
        -∗ run c (.op (.waitDma2 (rcvS i) A (rcvM i) hsrc hdst) fun _ =>
            .op (.load (Memref.whole cc0_scratch1 : Memref sig .tc .vmem S7x512x256 .bf16) (slotR i).toLoadRect hl) k) Q) := by
  iintro #HR Hc Hat HO Hk
  iapply (step_received m K c i) $$ HR Hc Hat HO
  iintro ⟨HO, Hv, Hr⟩
  iapply (load_slot c (hr := fun _ => rfl) (t := S512x256) (hq := squeezes_S1x512x256_S512x256)) $$ Hr; iintro Hr
  iapply Hk
  isplitl [HO]; · iexact HO
  isplitl [Hv]; · iexact Hv
  iexists _; iexact Hr

/-- Wait for a block on its way to the result: its slot of the stage is free again. -/
theorem phase_left (c t : Dev nD) (s : Fin 2) (X : FVec F S512x256 .f32) {n l : ℕ} {B : Memref sig .tc .hbm S512x256 .f32} (hB : B = rowM t)
    {hsrc : (stageM s).view.WordExact} {hdst : B.view.WordExact} {k : PUnit → Prog (TpuEff nD τ sig (Elt F) Λ₀ .tc) α} {Q : α → sProp 𝕄} :
    (leaving c t s X : sProp 𝕄) ⊢ iprop(levAts L lv -∗ ow c (owed n l c)
        -∗ ((ow c (owed n l c) ∗ stageFree c s ∗ rowHas c t X) -∗ run c (k ⟨⟩) Q)
        -∗ run c (.op (.waitDma2 (stageS s) (stageM s) B hsrc hdst) k) Q) := by
  subst hB
  unfold leaving stageFree rowHas
  iintro HF #Hlev HO Hk
  iapply (copy_wait c rfl (mayWait_local c n l (stageS_local s))) $$ HF Hlev HO
  iintro ⟨⟨Hr, Hs⟩, Hv, HO⟩
  iapply Hk
  isplitl [HO]; · iexact HO
  isplitl [Hs Hv]
  · isplitl [Hs]; · iexists _; iexact Hs
    iexact Hv
  iexact Hr

/-- Put the block received from `e` in the stage and start it towards row block `e`. -/
theorem phase_leave (c e : Dev nD) (s : Fin 2) {B : Memref sig .tc .hbm S512x256 .f32} (hB : B = rowM e)
    {hl' : (Memref.whole cc0_scratch3 : Memref sig .tc .vmem S2x512x256 .f32).view.LoadsAt (stageR s).toLoadRect}
    {hx : ((Memref.whole cc0_scratch3 : Memref sig .tc .vmem S2x512x256 .f32).access (stageR s)).Stores Finset.univ}
    {hm : (Finset.univ : Finset (stageR s).shape.Idx) = Finset.univ ∨ ∀ a, (stageR s).stride a = 1}
    {hsrc' : (stageM s).view.WordExact} {hdst' : B.view.WordExact}
    {hsem' : DmaTarget.Typed .vmem (.dma (stageS s)) (DmaTarget.here B : DmaTarget nD τ sig .tc .hbm S512x256 .f32)}
    {k : PUnit → Prog (TpuEff nD τ sig (Elt F) Λ₀ .tc) α} {Q : α → sProp 𝕄} :
    (stageFree c s : sProp 𝕄) ⊢ iprop(rowAny c e -∗ (leaving c e s (gotRow m e c) -∗ run c (k ⟨⟩) Q)
        -∗ run c (.op (.load (Memref.whole cc0_scratch3 : Memref sig .tc .vmem S2x512x256 .f32) (stageR s).toLoadRect hl') fun _ =>
            .op (.store (Memref.whole cc0_scratch3 : Memref sig .tc .vmem S2x512x256 .f32) (stageR s)
              (k0_pay10 (shapeCast S1x512x256 (blkVal m e c))) Finset.univ hx hm) fun _ =>
            .op (.enqueueDma (stageM s) (.here B) (.dma (stageS s)) hsrc' hdst' hsem') k) Q) := by
  unfold stageFree rowAny rowHas leaving
  iintro ⟨⟨%X, Hs⟩, Hv⟩ ⟨%Y, Hr⟩ Hk
  iapply (load_slot c (hr := fun _ => rfl) (t := S512x256) (hq := squeezes_S1x512x256_S512x256)) $$ Hs; iintro Hs
  iapply (store_slot c (hr := fun _ => rfl) (t := S512x256) (hq := squeezes_S1x512x256_S512x256)) $$ Hs; iintro Hs
  iapply (copy_issue c (A := stageM s) (A' := stageM s) rfl hB (sm := stageS s) (Y := Y) (by decide)) $$ Hs Hr Hv
  iintro HL
  iapply Hk
  iexact HL

end Phases

end Cert.AllToAll

end
-- ==== Proof.Split.lean ====
/-
# Cutting a buffer into slots and blocks, and putting it together again

Every buffer the kernel works on in pieces is cut along one axis into equal pieces: the slots of the scratch buffers, the
columns of the weights, the rows of the result. The pieces are disjoint and cover the buffer, so owning the buffer is
owning its pieces.
-/
module

public import proofs.«01_k».proof.Proof.Phases

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Cuts along an axis -/

/-- `r` cuts a shape along axis `a` into `n` pieces of extent `p`. -/
structure Cuts {n : ℕ} {sh : Shape} (r : Fin n → Rect sh) (a : Fin sh.rank) (p : ℕ) : Prop where
  stride : ∀ t b, (r t).stride b = 1
  off : ∀ t b, (r t).off b = if b = a then p * t.val else 0
  size : ∀ t b, (r t).size b = if b = a then p else sh.size b
  total : sh.size a = p * n
  pos : 0 < p

theorem Cuts.mem {n : ℕ} {sh : Shape} {r : Fin n → Rect sh} {a : Fin sh.rank} {p : ℕ} (h : Cuts r a p) (t : Fin n) (i : sh.Idx) :
    i ∈ (r t).set ↔ (i a : ℕ) / p = t.val := by
  rw [LoadRect.mem_set]
  constructor
  · intro hi
    obtain ⟨j, hj, e⟩ := hi a
    rw [h.off, h.stride, if_pos rfl, Nat.one_mul] at e
    rw [h.size, if_pos rfl] at hj
    rw [e, Nat.add_comm, Nat.add_mul_div_left _ _ h.pos, Nat.div_eq_of_lt hj, Nat.zero_add]
  · intro hi b
    by_cases hb : b = a
    · subst hb
      refine ⟨(i b : ℕ) % p, ?_, ?_⟩
      · rw [h.size, if_pos rfl]; exact Nat.mod_lt _ h.pos
      · rw [h.off, h.stride, if_pos rfl, Nat.one_mul, ← hi]; exact (Nat.div_add_mod _ _).symm
    · refine ⟨(i b : ℕ), ?_, ?_⟩
      · rw [h.size, if_neg hb]; exact (i b).isLt
      · rw [h.off, h.stride, if_neg hb, Nat.one_mul, Nat.zero_add]

theorem Cuts.disjoint {n : ℕ} {sh : Shape} {r : Fin n → Rect sh} {a : Fin sh.rank} {p : ℕ} (h : Cuts r a p) (t t' : Fin n) (hne : t ≠ t') :
    Disjoint (r t).set (r t').set :=
  Finset.disjoint_left.mpr fun i hi hi' => hne (Fin.ext (((h.mem t i).mp hi).symm.trans ((h.mem t' i).mp hi')))

theorem Cuts.cover {n : ℕ} {sh : Shape} {r : Fin n → Rect sh} {a : Fin sh.rank} {p : ℕ} (h : Cuts r a p) :
    (Finset.univ : Finset (Fin n)).biUnion (fun t => (r t).set) = Finset.univ := by
  refine Finset.eq_univ_of_forall fun i => Finset.mem_biUnion.mpr ?_
  have hlt : (i a : ℕ) / p < n := Nat.div_lt_of_lt_mul (h.total ▸ (i a).isLt)
  exact ⟨⟨_, hlt⟩, Finset.mem_univ _, (h.mem _ i).mpr rfl⟩

theorem slotR_cuts : Cuts slotR 0 1 := ⟨fun _ _ => rfl, by decide, by decide, by decide, by decide⟩
theorem tileR_cuts : Cuts tileR 0 1 := ⟨fun _ _ => rfl, by decide, by decide, by decide, by decide⟩
theorem stageR_cuts : Cuts stageR 0 1 := ⟨fun _ _ => rfl, by decide, by decide, by decide, by decide⟩
theorem colR_cuts : Cuts (n := 8) colR 1 256 := ⟨fun _ _ => rfl, by decide, by decide, by decide, by decide⟩
theorem rowR_cuts : Cuts (n := 8) rowR 0 512 := ⟨fun _ _ => rfl, by decide, by decide, by decide, by decide⟩

/-- Contents given piece by piece are the pieces of one whole. -/
theorem Cuts.paste {n : ℕ} {sh : Shape} {r : Fin n → Rect sh} {a : Fin sh.rank} {p : ℕ} (h : Cuts r a p) {A : Type} [Nonempty A]
    (Y : (t : Fin n) → (r t).shape.Idx → A) : ∃ X : sh.Idx → A, ∀ t j, X ((r t).emb j) = Y t j := by
  classical
  let g : (Σ t, (r t).shape.Idx) → sh.Idx := fun p => (r p.1).emb p.2
  have hg : Function.Injective g := by
    rintro ⟨t, j⟩ ⟨t', j'⟩ e
    have ht : t = t' := by
      by_contra hne
      refine Finset.disjoint_left.mp (h.disjoint t t' hne) (?_ : (r t).emb j ∈ _) ?_
      · rw [← Rect.map_emb_univ]; exact Finset.mem_map_of_mem _ (Finset.mem_univ _)
      · rw [show (r t).emb j = (r t').emb j' from e, ← Rect.map_emb_univ]; exact Finset.mem_map_of_mem _ (Finset.mem_univ _)
    subst ht
    exact congrArg (Sigma.mk t) ((r t).emb.injective e)
  exact ⟨Function.extend g (fun p => Y p.1 p.2) (fun _ => Classical.arbitrary A), fun t j => hg.extend_apply _ _ ⟨t, j⟩⟩

/-! ## Slots -/

section Slots

variable {n : ℕ} {sp : Space} {sh t : Shape} {e : EltTy} {r : Fin n → Rect sh} {a : Fin sh.rank} {p : ℕ}

/-- Owning a slice with an axis dropped is owning the slice. -/
theorem owns_squeeze (c : Dev nD) {M : Memref sig .tc sp sh e} (hq : sh.Squeezes t) (q : PosShare TreeShare) (X : sh.Idx → Elt F e) :
    (owns (c : Thread nD τ) M q X : sProp 𝕄) ⊢ owns (c : Thread nD τ) (M.squeeze t hq) q (shapeCast t X hq.numel_eq) := by
  unfold owns
  iintro ⟨%f, %hf, H⟩
  have hset : (M.squeeze t hq).view.set = M.view.set := View.set_reshape _ _
  rw [hset]
  iexists f
  isplitr; · ipureintro; rw [← hf]; rfl
  iexact H

/-- The same, the contents forgotten. -/
theorem owns_squeeze_any (c : Dev nD) {M : Memref sig .tc sp sh e} (hq : sh.Squeezes t) (X : sh.Idx → Elt F e) :
    (owns (c : Thread nD τ) M fullShare X : sProp 𝕄) ⊢ iprop(∃ Y, owns (c : Thread nD τ) (M.squeeze t hq) fullShare Y) := by
  iintro H
  iexists _
  iapply (owns_squeeze c hq fullShare X) $$ H

/-- And back. -/
theorem owns_unsqueeze (c : Dev nD) {M : Memref sig .tc sp sh e} (hq : sh.Squeezes t) (q : PosShare TreeShare) (X : t.Idx → Elt F e) :
    (owns (c : Thread nD τ) (M.squeeze t hq) q X : sProp 𝕄) ⊢ owns (c : Thread nD τ) M q (shapeCast sh X hq.numel_eq.symm) := by
  unfold owns
  iintro ⟨%f, %hf, H⟩
  have hset : (M.squeeze t hq).view.set = M.view.set := View.set_reshape _ _
  rw [hset]
  iexists f
  isplitr
  · ipureintro; rw [← hf]; exact (shapeCast_back hq.numel_eq hq.numel_eq.symm (M.view.read (Elt F) f)).symm
  iexact H

/-- A buffer at any contents is its slots at any contents. -/
theorem slots_split (h : Cuts r a p) (c : Dev nD) (M : Memref sig .tc sp sh e) (hr : ∀ i b, (r i).stride b = 1) (hq : ∀ i, (r i).shape.Squeezes t) (X : sh.Idx → Elt F e) :
    (owns (c : Thread nD τ) M fullShare X : sProp 𝕄)
      ⊢ BI.bigSep Finset.univ fun i => iprop(∃ Y, owns (c : Thread nD τ) ((M.slice (r i) (hr i)).squeeze t (hq i)) fullShare Y) :=
  (owns_rects (c : Thread nD τ) M fullShare r hr h.disjoint h.cover X).trans (bigSep_mono fun i _ => owns_squeeze_any c (hq i) _)

/-- And back. -/
theorem slots_join (h : Cuts r a p) (c : Dev nD) (M : Memref sig .tc sp sh e) (hr : ∀ i b, (r i).stride b = 1) (hq : ∀ i, (r i).shape.Squeezes t) :
    (BI.bigSep Finset.univ fun i => iprop(∃ Y, owns (c : Thread nD τ) ((M.slice (r i) (hr i)).squeeze t (hq i)) fullShare Y))
      ⊢ (iprop(∃ X, owns (c : Thread nD τ) M fullShare X) : sProp 𝕄) := by
  iintro H
  ihave H := (BI.bigSep_exists_pi Finset.univ (fun i (Y : t.Idx → Elt F e) => (owns (c : Thread nD τ) ((M.slice (r i) (hr i)).squeeze t (hq i)) fullShare Y : sProp 𝕄))) $$ H
  icases H with ⟨%Y, H⟩
  obtain ⟨X, hX⟩ := h.paste fun i => shapeCast (r i).shape (Y i) (hq i).numel_eq.symm
  iexists X
  iapply (owns_of_rects (c : Thread nD τ) M fullShare r hr h.disjoint h.cover X)
  iapply (show BI.bigSep Finset.univ (fun i => owns (c : Thread nD τ) ((M.slice (r i) (hr i)).squeeze t (hq i)) fullShare (Y i))
      ⊢ (BI.bigSep Finset.univ fun i => owns (c : Thread nD τ) (M.slice (r i) (hr i)) fullShare (fun j => X ((r i).emb j)) : sProp 𝕄) from
    bigSep_mono fun i _ => by
      rw [show (fun j => X ((r i).emb j)) = shapeCast (r i).shape (Y i) (hq i).numel_eq.symm from funext (hX i)]
      exact owns_unsqueeze c (hq i) fullShare (Y i)) $$ H

end Slots

end Cert.AllToAll

end
-- ==== Proof.Body.lean ====
/-
# One device's run

The kernel's program at any device, phase by phase, from what the device is dealt at the launch to what it hands back.
-/
module

public import proofs.«01_k».proof.Proof.Phases

@[expose] public section

noncomputable section

namespace Cert.AllToAll

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The slots and halves by number -/

abbrev n0 : Fin 7 := ⟨0, by decide⟩
abbrev n1 : Fin 7 := ⟨1, by decide⟩
abbrev n2 : Fin 7 := ⟨2, by decide⟩
abbrev n3 : Fin 7 := ⟨3, by decide⟩
abbrev n4 : Fin 7 := ⟨4, by decide⟩
abbrev n5 : Fin 7 := ⟨5, by decide⟩
abbrev n6 : Fin 7 := ⟨6, by decide⟩
abbrev h0 : Fin 2 := ⟨0, by decide⟩
abbrev h1 : Fin 2 := ⟨1, by decide⟩

/-- Seven slots, written out. -/
theorem seven (Φ : Fin 7 → sProp 𝕄) :
    BI.bigSep Finset.univ Φ = iprop(Φ n0 ∗ Φ n1 ∗ Φ n2 ∗ Φ n3 ∗ Φ n4 ∗ Φ n5 ∗ Φ n6) := by
  rw [bigSep_univ_eq_bigSepL [n0, n1, n2, n3, n4, n5, n6] (by decide) (by decide)]
  simp only [bigSepL_cons_cons, bigSepL_singleton]; rfl

/-- Two halves, written out. -/
theorem two (Φ : Fin 2 → sProp 𝕄) : BI.bigSep Finset.univ Φ = iprop(Φ h0 ∗ Φ h1) := by
  rw [bigSep_univ_eq_bigSepL [h0, h1] (by decide) (by decide)]
  simp only [bigSepL_cons_cons, bigSepL_singleton]; rfl

/-! ## What a device starts with and what it ends with -/

/-- The memory the kernel works on, the slots of the exchange aside: the two double buffers with their semaphores, the
    staged block of `x`, and the columns of the weights. -/
def common (c : Dev nD) : sProp 𝕄 :=
  iprop((BI.bigSep Finset.univ fun s : Fin 2 => tileFree c s) ∗ (BI.bigSep Finset.univ fun s : Fin 2 => stageFree c s)
    ∗ owns (c : Thread nD τ) (Memref.whole cc0_stg0_0) fullShare (xBlk m c)
    ∗ colHas m c c ∗ BI.bigSep Finset.univ fun k : Fin 7 => colHas m c (tgt k c))

/-- What a device holds at its kernel's start: the memory, and its part in the exchange — the duties it will pay, with
    the receive slots it hands over with its signals, its own cells, and the credits of the waits on other devices. -/
def before (c : Dev nD) : sProp 𝕄 :=
  iprop(common m c ∗ (rowAny c c ∗ BI.bigSep Finset.univ fun k : Fin 7 => rowAny c (src k c))
    ∗ (BI.bigSep Finset.univ fun k : Fin 7 => sndPay c k)
    ∗ (BI.bigSep Finset.univ fun j : Fin 7 => signalRes c j)
    ∗ (BI.bigSep Finset.univ fun k : Fin 7 => sendToks c k)
    ∗ (cred (tallyAt (barCell c) () 7) ∗ BI.bigSep Finset.univ fun k : Fin 7 => cred (tallyAt (rcvCell c k) () N))
    ∗ atPos ER (barCell c) 0 ∅ 0
    ∗ (BI.bigSep Finset.univ fun k : Fin 7 => atPos ER (sndCell c k) 0 ∅ 0)
    ∗ (BI.bigSep Finset.univ fun k : Fin 7 => atPos ER (rcvCell c k) 0 ∅ 0))

/-- What it holds at the end: the memory, the row blocks of the result written, both sets of slots, and its cells at
    zero. -/
def afterwards (c : Dev nD) : sProp 𝕄 :=
  iprop(common m c ∗ (rowHas c c (ownRow m c) ∗ BI.bigSep Finset.univ fun k : Fin 7 => rowHas c (src k c) (gotRow m (src k c) c))
    ∗ (BI.bigSep Finset.univ fun k : Fin 7 => sndPay c k)
    ∗ (BI.bigSep Finset.univ fun k : Fin 7 => iprop(∃ X, owns (c : Thread nD τ) (rcvM k) fullShare X))
    ∗ semVal (barCell c) 0
    ∗ (BI.bigSep Finset.univ fun k : Fin 7 => semVal (sndCell c k) 0)
    ∗ (BI.bigSep Finset.univ fun k : Fin 7 => semVal (rcvCell c k) 0))

/-! ## The payloads the compiled program spells twice -/

theorem pay3_eq : (k0_pay3 (F := F)) = k0_pay2 := rfl
theorem pay4_eq : (k0_pay4 (F := F)) = k0_pay2 := rfl
theorem pay5_eq : (k0_pay5 (F := F)) = k0_pay2 := rfl
theorem pay6_eq : (k0_pay6 (F := F)) = k0_pay2 := rfl
theorem pay7_eq : (k0_pay7 (F := F)) = k0_pay2 := rfl
theorem pay8_eq : (k0_pay8 (F := F)) = k0_pay2 := rfl
theorem pay11_eq : (k0_pay11 (F := F)) = k0_pay10 := rfl
theorem pay14_eq : (k0_pay14 (F := F)) = k0_pay10 := rfl
theorem pay17_eq : (k0_pay17 (F := F)) = k0_pay10 := rfl
theorem pay18_eq : (k0_pay18 (F := F)) = k0_pay10 := rfl
theorem pay13_eq (v : FVec F S1x512x256 .bf16) : k0_pay13 (k0_pay12 v) = k0_pay10 v := rfl
theorem pay16_eq (v : FVec F S1x512x256 .bf16) : k0_pay16 (k0_pay15 v) = k0_pay10 v := rfl

/-- Loading the staged block of `x`. -/
theorem load_staged (c : Dev nD) {α : Type} {inb : ∀ a, (![0, 0] : Fin 2 → ℕ) a + S512x4096.size a ≤ S512x4096.size a}
    {hl : (Memref.whole cc0_stg0_0 : Memref sig .tc .vmem S512x4096 .f32).view.LoadsAt (Rect.unit (s := S512x4096) ![0, 0] S512x4096.size inb).toLoadRect}
    {k : (S512x4096.Idx → Elt F .f32) → Prog (TpuEff nD τ sig (Elt F) Λ₀ .tc) α} {Q : α → sProp 𝕄} :
    (owns (c : Thread nD τ) (Memref.whole cc0_stg0_0) fullShare (xBlk m c) : sProp 𝕄)
      ⊢ iprop((owns (c : Thread nD τ) (Memref.whole cc0_stg0_0) fullShare (xBlk m c) -∗ run c (k (xBlk m c)) Q)
        -∗ run c (.op (.load (Memref.whole cc0_stg0_0 : Memref sig .tc .vmem S512x4096 .f32) (Rect.unit (s := S512x4096) ![0, 0] S512x4096.size inb).toLoadRect hl) k) Q) := by
  unfold run
  rw [owns_whole]
  iintro H Hk
  iapply (wp_load 𝒱₀ (c : Thread nD τ) none Set.univ (m := (Memref.whole cc0_stg0_0 : Memref sig .tc .vmem S512x4096 .f32)) (Finset.subset_univ _)) $$ H
  iintro H
  rw [show (Memref.whole cc0_stg0_0 : Memref sig .tc .vmem S512x4096 .f32).view.readAt (Elt F) (Rect.unit (s := S512x4096) ![0, 0] S512x4096.size inb).toLoadRect (xBlk m c) = xBlk m c
    from Memref.readAt_unit_zero (Elt F) cc0_stg0_0 (by decide) inb (xBlk m c)]
  iapply Hk; iexact H

set_option maxHeartbeats 4000000 in
/-- The kernel's run on device `c`. -/
theorem body_run (c : Dev nD) (t : Fin cfg0.N) (Q : Unit → sProp 𝕄) :
    iprop(records m K ∗ levAts L lv ∗ ow c (owed 0 0 c) ∗ before m c)
      ⊢ iprop(((ow c (owed 7 7 c) ∗ afterwards m c) -∗ Q ()) -∗ run c (bodyAt0 t) Q) := by
  rw [fin_N0 t]
  unfold run before afterwards common bodyAt0
  simp only [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
    k0_part20_skel k0_part21_skel
  simp only [semSignalWord, semWaitWord, Prog.lift, Prog.bind_op, Prog.bind_ret, Prog.pure_eq_ret, wp_deviceId, seven, two,
    pay3_eq, pay4_eq, pay5_eq, pay6_eq, pay7_eq, pay8_eq, pay11_eq, pay14_eq, pay17_eq, pay18_eq, pay13_eq, pay16_eq]
  iintro ⟨#HR, #Hlev, HO, HB⟩ Hk
  icases HB with ⟨⟨⟨Ht0, Ht1⟩, ⟨Hs0, Hs1⟩, Hx, Hco, ⟨Hc0, Hc1, Hc2, Hc3, Hc4, Hc5, Hc6⟩⟩, ⟨Hro, ⟨Hr0, Hr1, Hr2, Hr3, Hr4, Hr5, Hr6⟩⟩, ⟨Hn0, Hn1, Hn2, Hn3, Hn4, Hn5, Hn6⟩, ⟨Hg0, Hg1, Hg2, Hg3, Hg4, Hg5, Hg6⟩, ⟨Hd0, Hd1, Hd2, Hd3, Hd4, Hd5, Hd6⟩, ⟨Hcb, ⟨Hcr0, Hcr1, Hcr2, Hcr3, Hcr4, Hcr5, Hcr6⟩⟩, Hab, ⟨Has0, Has1, Has2, Has3, Has4, Has5, Has6⟩, ⟨Har0, Har1, Har2, Har3, Har4, Har5, Har6⟩⟩
  iapply (step_signal m K c _ n0 (dev1_eq c) rfl) $$ HR Hg0 HO; iintro HO
  iapply (step_signal m K c _ n1 (dev2_eq c) rfl) $$ HR Hg1 HO; iintro HO
  iapply (step_signal m K c _ n2 (dev3_eq c) rfl) $$ HR Hg2 HO; iintro HO
  iapply (step_signal m K c _ n3 (dev4_eq c) rfl) $$ HR Hg3 HO; iintro HO
  iapply (step_signal m K c _ n4 (dev5_eq c) rfl) $$ HR Hg4 HO; iintro HO
  iapply (step_signal m K c _ n5 (dev6_eq c) rfl) $$ HR Hg5 HO; iintro HO
  iapply (step_signal m K c _ n6 (dev7_eq c) rfl) $$ HR Hg6 HO; iintro HO
  iapply (load_staged m c) $$ Hx; iintro Hx
  iapply (phase_fetch m c (tgt n0 c) h0 (colM_of (off1_eq c 0) _)) $$ Ht0 Hc0; iintro Hf0
  iapply (phase_fetch m c (tgt n1 c) h1 (colM_of (off1_eq c 1) _)) $$ Ht1 Hc1; iintro Hf1
  iapply (phase_block m c (tgt n0 c) h0 n0 (n := 7) (l := 0)) $$ Hf0 Hlev HO Hn0; iintro ⟨HO, Ht0, Hc0, Hn0⟩
  iapply (step_barrier m K c rfl) $$ HR Hlev Hcb Hab HO; iintro ⟨HO, Hvb, HP⟩
  ihave HP := (Entails.of_eq (seven (fun k => barPay c k))) $$ HP; icases HP with ⟨Hp0, Hp1, Hp2, Hp3, Hp4, Hp5, Hp6⟩
  iapply (step_send m K c _ n0 (dev8_eq c)) $$ HR Hd0 Hn0 Hp0 HO; iintro ⟨Hcs0, HO⟩
  iapply (phase_fetch m c (tgt n2 c) h0 (colM_of (off1_eq c 2) _)) $$ Ht0 Hc2; iintro Hf0
  iapply (phase_block m c (tgt n1 c) h1 n1 (n := 7) (l := 1)) $$ Hf1 Hlev HO Hn1; iintro ⟨HO, Ht1, Hc1, Hn1⟩
  iapply (step_send m K c _ n1 (dev9_eq c)) $$ HR Hd1 Hn1 Hp1 HO; iintro ⟨Hcs1, HO⟩
  iapply (phase_fetch m c (tgt n3 c) h1 (colM_of (off1_eq c 3) _)) $$ Ht1 Hc3; iintro Hf1
  iapply (phase_block m c (tgt n2 c) h0 n2 (n := 7) (l := 2)) $$ Hf0 Hlev HO Hn2; iintro ⟨HO, Ht0, Hc2, Hn2⟩
  iapply (step_send m K c _ n2 (dev10_eq c)) $$ HR Hd2 Hn2 Hp2 HO; iintro ⟨Hcs2, HO⟩
  iapply (phase_fetch m c (tgt n4 c) h0 (colM_of (off2_eq c 0) _)) $$ Ht0 Hc4; iintro Hf0
  iapply (phase_block m c (tgt n3 c) h1 n3 (n := 7) (l := 3)) $$ Hf1 Hlev HO Hn3; iintro ⟨HO, Ht1, Hc3, Hn3⟩
  iapply (step_send m K c _ n3 (dev11_eq c)) $$ HR Hd3 Hn3 Hp3 HO; iintro ⟨Hcs3, HO⟩
  iapply (phase_fetch m c (tgt n5 c) h1 (colM_of (off2_eq c 1) _)) $$ Ht1 Hc5; iintro Hf1
  iapply (phase_block m c (tgt n4 c) h0 n4 (n := 7) (l := 4)) $$ Hf0 Hlev HO Hn4; iintro ⟨HO, Ht0, Hc4, Hn4⟩
  iapply (step_send m K c _ n4 (dev12_eq c)) $$ HR Hd4 Hn4 Hp4 HO; iintro ⟨Hcs4, HO⟩
  iapply (phase_fetch m c (tgt n6 c) h0 (colM_of (off2_eq c 2) _)) $$ Ht0 Hc6; iintro Hf0
  iapply (phase_block m c (tgt n5 c) h1 n5 (n := 7) (l := 5)) $$ Hf1 Hlev HO Hn5; iintro ⟨HO, Ht1, Hc5, Hn5⟩
  iapply (step_send m K c _ n5 (dev13_eq c)) $$ HR Hd5 Hn5 Hp5 HO; iintro ⟨Hcs5, HO⟩
  iapply (phase_fetch m c c h1 (colM_of (off3_eq c) _)) $$ Ht1 Hco; iintro Hf1
  iapply (phase_block m c (tgt n6 c) h0 n6 (n := 7) (l := 6)) $$ Hf0 Hlev HO Hn6; iintro ⟨HO, Ht0, Hc6, Hn6⟩
  iapply (step_send m K c _ n6 (dev14_eq c)) $$ HR Hd6 Hn6 Hp6 HO; iintro ⟨Hcs6, HO⟩
  iapply (phase_own m c h1 h0 (rowM_of (off4_eq c) _) (n := 7) (l := 7)) $$ Hf1 Hlev HO Hs0 Hro; iintro ⟨HO, Ht1, Hco, Hl0⟩
  iapply (step_sent m K c n0) $$ HR Hcs0 Has0 HO; iintro ⟨HO, Hvs0, Hn0⟩
  iapply (phase_read m K c n0) $$ HR Hcr0 Har0 HO; iintro ⟨HO, Hvr0, Hq0⟩
  iapply (phase_leave m c (src n0 c) h1 (rowM_of (off5_eq c 0) _)) $$ Hs1 Hr0; iintro Hl1
  iapply (step_sent m K c n1) $$ HR Hcs1 Has1 HO; iintro ⟨HO, Hvs1, Hn1⟩
  iapply (phase_read m K c n1) $$ HR Hcr1 Har1 HO; iintro ⟨HO, Hvr1, Hq1⟩
  iapply (phase_left c c h0 _ (n := 7) (l := 7) (rowM_of (off4_eq c) _)) $$ Hl0 Hlev HO; iintro ⟨HO, Hs0, Hro⟩
  iapply (phase_leave m c (src n1 c) h0 (rowM_of (off5_eq c 1) _)) $$ Hs0 Hr1; iintro Hl0
  iapply (step_sent m K c n2) $$ HR Hcs2 Has2 HO; iintro ⟨HO, Hvs2, Hn2⟩
  iapply (phase_read m K c n2) $$ HR Hcr2 Har2 HO; iintro ⟨HO, Hvr2, Hq2⟩
  iapply (phase_left c (src n0 c) h1 _ (n := 7) (l := 7) (rowM_of (off5_eq c 0) _)) $$ Hl1 Hlev HO; iintro ⟨HO, Hs1, Hr0⟩
  iapply (phase_leave m c (src n2 c) h1 (rowM_of (off5_eq c 2) _)) $$ Hs1 Hr2; iintro Hl1
  iapply (step_sent m K c n3) $$ HR Hcs3 Has3 HO; iintro ⟨HO, Hvs3, Hn3⟩
  iapply (phase_read m K c n3) $$ HR Hcr3 Har3 HO; iintro ⟨HO, Hvr3, Hq3⟩
  iapply (phase_left c (src n1 c) h0 _ (n := 7) (l := 7) (rowM_of (off5_eq c 1) _)) $$ Hl0 Hlev HO; iintro ⟨HO, Hs0, Hr1⟩
  iapply (phase_leave m c (src n3 c) h0 (rowM_of (off5_eq c 3) _)) $$ Hs0 Hr3; iintro Hl0
  iapply (step_sent m K c n4) $$ HR Hcs4 Has4 HO; iintro ⟨HO, Hvs4, Hn4⟩
  iapply (phase_read m K c n4) $$ HR Hcr4 Har4 HO; iintro ⟨HO, Hvr4, Hq4⟩
  iapply (phase_left c (src n2 c) h1 _ (n := 7) (l := 7) (rowM_of (off5_eq c 2) _)) $$ Hl1 Hlev HO; iintro ⟨HO, Hs1, Hr2⟩
  iapply (phase_leave m c (src n4 c) h1 (rowM_of (off6_eq c 0) _)) $$ Hs1 Hr4; iintro Hl1
  iapply (step_sent m K c n5) $$ HR Hcs5 Has5 HO; iintro ⟨HO, Hvs5, Hn5⟩
  iapply (phase_read m K c n5) $$ HR Hcr5 Har5 HO; iintro ⟨HO, Hvr5, Hq5⟩
  iapply (phase_left c (src n3 c) h0 _ (n := 7) (l := 7) (rowM_of (off5_eq c 3) _)) $$ Hl0 Hlev HO; iintro ⟨HO, Hs0, Hr3⟩
  iapply (phase_leave m c (src n5 c) h0 (rowM_of (off6_eq c 1) _)) $$ Hs0 Hr5; iintro Hl0
  iapply (step_sent m K c n6) $$ HR Hcs6 Has6 HO; iintro ⟨HO, Hvs6, Hn6⟩
  iapply (phase_read m K c n6) $$ HR Hcr6 Har6 HO; iintro ⟨HO, Hvr6, Hq6⟩
  iapply (phase_left c (src n4 c) h1 _ (n := 7) (l := 7) (rowM_of (off6_eq c 0) _)) $$ Hl1 Hlev HO; iintro ⟨HO, Hs1, Hr4⟩
  iapply (phase_leave m c (src n6 c) h1 (rowM_of (off6_eq c 2) _)) $$ Hs1 Hr6; iintro Hl1
  iapply (phase_left c (src n5 c) h0 _ (n := 7) (l := 7) (rowM_of (off6_eq c 1) _)) $$ Hl0 Hlev HO; iintro ⟨HO, Hs0, Hr5⟩
  iapply (phase_left c (src n6 c) h1 _ (n := 7) (l := 7) (rowM_of (off6_eq c 2) _)) $$ Hl1 Hlev HO; iintro ⟨HO, Hs1, Hr6⟩
  unfold run; rw [wp_ret]; imodintro
  iapply Hk
  isplitl [HO]; · iexact HO
  isplitl [Ht0 Ht1 Hs0 Hs1 Hx Hco Hc0 Hc1 Hc2 Hc3 Hc4 Hc5 Hc6]
  · isplitl [Ht0 Ht1]
    · isplitl [Ht0]; · iexact Ht0
      iexact Ht1
    isplitl [Hs0 Hs1]
    · isplitl [Hs0]; · iexact Hs0
      iexact Hs1
    isplitl [Hx]; · iexact Hx
    isplitl [Hco]; · iexact Hco
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hc6
  isplitl [Hro Hr0 Hr1 Hr2 Hr3 Hr4 Hr5 Hr6]
  · isplitl [Hro]; · iexact Hro
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [Hn0 Hn1 Hn2 Hn3 Hn4 Hn5 Hn6]
  · isplitl [Hn0]; · iexact Hn0
    isplitl [Hn1]; · iexact Hn1
    isplitl [Hn2]; · iexact Hn2
    isplitl [Hn3]; · iexact Hn3
    isplitl [Hn4]; · iexact Hn4
    isplitl [Hn5]; · iexact Hn5
    iexact Hn6
  isplitl [Hq0 Hq1 Hq2 Hq3 Hq4 Hq5 Hq6]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexact Hq6
  isplitl [Hvb]; · iexact Hvb
  isplitl [Hvs0 Hvs1 Hvs2 Hvs3 Hvs4 Hvs5 Hvs6]
  · isplitl [Hvs0]; · iexact Hvs0
    isplitl [Hvs1]; · iexact Hvs1
    isplitl [Hvs2]; · iexact Hvs2
    isplitl [Hvs3]; · iexact Hvs3
    isplitl [Hvs4]; · iexact Hvs4
    isplitl [Hvs5]; · iexact Hvs5
    iexact Hvs6
  isplitl [Hvr0]; · iexact Hvr0
  isplitl [Hvr1]; · iexact Hvr1
  isplitl [Hvr2]; · iexact Hvr2
  isplitl [Hvr3]; · iexact Hvr3
  isplitl [Hvr4]; · iexact Hvr4
  isplitl [Hvr5]; · iexact Hvr5
  iexact Hvr6

end Cert.AllToAll

end
-- ==== Proof.Deal.lean ====
/-
# Dealing out the memory, and the result put together

At its start a device's buffers are cut into the slots and blocks its run works on; at its end they are whole again, the
result made of its eight row blocks.
-/
module

public import proofs.«01_k».proof.Proof.Split
public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The result -/

/-- Row block `e` of device `c`'s result. -/
def rowVal (c e : Dev nD) : FVec F S512x256 .f32 := if e = c then ownRow m c else gotRow m e c

/-- Which row block an index of the result lies in. -/
def rowNo (i : S4096x256.Idx) : Dev nD := ⟨(i 0).val / 512, Nat.div_lt_of_lt_mul (i 0).isLt⟩
/-- And where in it. -/
def rowIx (i : S4096x256.Idx) : S512x256.Idx := fun a => match a with
  | ⟨0, _⟩ => ⟨(i 0).val % 512, Nat.mod_lt _ (by decide)⟩
  | ⟨1, _⟩ => ⟨(i 1).val, (i 1).isLt⟩

/-- Device `c`'s result. -/
def result (c : Dev nD) : FVec F S4096x256 .f32 := fun i => rowVal m c (rowNo i) (rowIx i)

theorem rowNo_emb (t : Dev nD) (j : (rowR t).shape.Idx) : rowNo ((rowR t).emb j) = t := by
  refine Fin.ext ?_
  show (512 * t.val + 1 * (j 0).val) / 512 = t.val
  have h : (j 0).val < 512 := (j 0).isLt
  omega

theorem rowIx_emb (t : Dev nD) (j : (rowR t).shape.Idx) : rowIx ((rowR t).emb j) = j := by
  funext a
  have h : (j 0).val < 512 := (j 0).isLt
  match a with
  | ⟨0, _⟩ =>
    refine Fin.ext ?_
    show (512 * t.val + 1 * (j 0).val) % 512 = (j 0).val
    omega
  | ⟨1, _⟩ =>
    refine Fin.ext ?_
    show 0 + 1 * (j 1).val = (j 1).val
    omega

theorem result_emb (c t : Dev nD) : (fun j => result m c ((rowR t).emb j)) = rowVal m c t := by
  funext j
  unfold result
  rw [rowNo_emb, rowIx_emb]

theorem src_ne : ∀ (k : Fin 7) (c : Dev nD), src k c ≠ c := by decide
theorem rowVal_own (c : Dev nD) : rowVal m c c = ownRow m c := if_pos rfl
theorem rowVal_got (c : Dev nD) (k : Fin 7) : rowVal m c (src k c) = gotRow m (src k c) c := if_neg (src_ne k c)

/-! ## The eight devices as one and seven -/

theorem bigSep_option {A : Type} [Fintype A] [DecidableEq A] (Φ : Option A → sProp 𝕄) :
    BI.bigSep Finset.univ Φ = iprop(Φ none ∗ BI.bigSep Finset.univ fun k => Φ (some k)) := by
  rw [bigSep_univ_at Φ none,
    show (Finset.univ.erase none : Finset (Option A)) = Finset.univ.map Function.Embedding.some from by
      ext o; cases o <;> simp, bigSep_map]
  rfl

theorem by_cols (c : Dev nD) (Φ : Dev nD → sProp 𝕄) :
    BI.bigSep Finset.univ Φ = iprop(Φ c ∗ BI.bigSep Finset.univ fun k : Fin 7 => Φ (tgt k c)) := by
  rw [bigSep_univ_equiv (colPerm c) Φ, bigSep_option]; rfl
theorem by_rows (c : Dev nD) (Φ : Dev nD → sProp 𝕄) :
    BI.bigSep Finset.univ Φ = iprop(Φ c ∗ BI.bigSep Finset.univ fun k : Fin 7 => Φ (src k c)) := by
  rw [bigSep_univ_equiv (rowPerm c) Φ, bigSep_option]; rfl

/-! ## Cutting and joining -/

theorem cols_eq (c : Dev nD) :
    (((c : Thread nD τ).loc main_arg1 ↦{fullShare} m ((c : Thread nD τ).loc main_arg1)) : sProp 𝕄)
      = iprop(colHas m c c ∗ BI.bigSep Finset.univ fun k : Fin 7 => colHas m c (tgt k c)) := by
  rw [← by_cols c (fun t => colHas m c t), ← owns_whole]
  have h := pointsTo_rects (Ix := Unit) (Val := Elt F) (Name := ℕ) (U := UU) (Lvl := ℕ) (c : Thread nD τ) (Memref.whole main_arg1 : Memref sig .tc .hbm S4096x2048 .f32) fullShare colR (fun _ _ => rfl) colR_cuts.disjoint colR_cuts.cover
    (m ((c : Thread nD τ).loc main_arg1))
  refine Eq.trans ?_ h
  rw [owns_whole, show (Memref.whole main_arg1 : Memref sig .tc .hbm S4096x2048 .f32).view.set = Finset.univ from View.set_whole _]

theorem rows_split (c : Dev nD) (f : Buf (Elt F) ((c : Thread nD τ).loc main_v1)) :
    (((c : Thread nD τ).loc main_v1 ↦{fullShare} f) : sProp 𝕄) ⊢ iprop(rowAny c c ∗ BI.bigSep Finset.univ fun k : Fin 7 => rowAny c (src k c)) := by
  rw [← by_rows c (fun t => rowAny c t), ← owns_whole]
  exact (owns_rects (c : Thread nD τ) (Memref.whole main_v1 : Memref sig .tc .hbm S4096x256 .f32) fullShare rowR (fun _ _ => rfl) rowR_cuts.disjoint rowR_cuts.cover f).trans
    (bigSep_mono fun t _ => show _ ⊢ rowAny c t from by
      unfold rowAny rowHas
      iintro H; iexists _; iexact H)

theorem rows_join (c : Dev nD) :
    (iprop(rowHas c c (ownRow m c) ∗ BI.bigSep Finset.univ fun k : Fin 7 => rowHas c (src k c) (gotRow m (src k c) c)) : sProp 𝕄)
      ⊢ ((c : Thread nD τ).loc main_v1 ↦{fullShare} (result m c : Buf (Elt F) ((c : Thread nD τ).loc main_v1))) := by
  rw [← rowVal_own, bigSep_congr (fun k _ => by rw [← rowVal_got] : ∀ k ∈ (Finset.univ : Finset (Fin 7)), rowHas c (src k c) (gotRow m (src k c) c) = (rowHas c (src k c) (rowVal m c (src k c)) : sProp 𝕄)),
    ← by_rows c (fun t => rowHas c t (rowVal m c t)), ← owns_whole]
  have h := owns_of_rects (Ix := Unit) (Val := Elt F) (Name := ℕ) (U := UU) (Lvl := ℕ) (c : Thread nD τ) (Memref.whole main_v1 : Memref sig .tc .hbm S4096x256 .f32) fullShare rowR (fun _ _ => rfl) rowR_cuts.disjoint rowR_cuts.cover
    (result m c)
  refine BIBase.Entails.trans (Entails.of_eq ?_) h
  exact bigSep_congr fun t _ => by rw [result_emb]; rfl

theorem any_whole (c : Dev nD) (b : Ref sig .tc) :
    (iprop(∃ f : Buf (Elt F) ((c : Thread nD τ).loc b), ((c : Thread nD τ).loc b) ↦{fullShare} f) : sProp 𝕄) = iprop(∃ X, owns (c : Thread nD τ) (Memref.whole b) fullShare X) := by
  simp only [owns_whole]

theorem snd_slots (c : Dev nD) :
    (iprop(∃ f : Buf (Elt F) ((c : Thread nD τ).loc cc0_scratch0), ((c : Thread nD τ).loc cc0_scratch0) ↦{fullShare} f) : sProp 𝕄)
      ⊢ BI.bigSep Finset.univ fun k : Fin 7 => sndPay c k := by
  rw [any_whole]; iintro ⟨%X, H⟩
  iapply (slots_split slotR_cuts c (Memref.whole cc0_scratch0 : Memref sig .tc .vmem S7x512x256 .bf16) (fun _ _ => rfl) (fun _ => squeezes_S1x512x256_S512x256) X) $$ H
theorem snd_whole (c : Dev nD) :
    (BI.bigSep Finset.univ fun k : Fin 7 => sndPay c k)
      ⊢ (iprop(∃ f : Buf (Elt F) ((c : Thread nD τ).loc cc0_scratch0), ((c : Thread nD τ).loc cc0_scratch0) ↦{fullShare} f) : sProp 𝕄) := by
  rw [any_whole]
  exact slots_join slotR_cuts c (Memref.whole cc0_scratch0 : Memref sig .tc .vmem S7x512x256 .bf16) (fun _ _ => rfl) (fun _ => squeezes_S1x512x256_S512x256)

theorem rcv_slots (c : Dev nD) :
    (iprop(∃ f : Buf (Elt F) ((c : Thread nD τ).loc cc0_scratch1), ((c : Thread nD τ).loc cc0_scratch1) ↦{fullShare} f) : sProp 𝕄)
      ⊢ BI.bigSep Finset.univ fun j : Fin 7 => iprop(∃ X, owns (c : Thread nD τ) (rcvM (slotOf j c)) fullShare X) := by
  rw [any_whole]; iintro ⟨%X, H⟩
  iapply (Entails.of_eq (bigSep_univ_equiv (slotPerm c) (fun k : Fin 7 => (iprop(∃ X, owns (c : Thread nD τ) (rcvM k) fullShare X) : sProp 𝕄))))
  iapply (slots_split slotR_cuts c (Memref.whole cc0_scratch1 : Memref sig .tc .vmem S7x512x256 .bf16) (fun _ _ => rfl) (fun _ => squeezes_S1x512x256_S512x256) X) $$ H
theorem rcv_whole (c : Dev nD) :
    (BI.bigSep Finset.univ fun k : Fin 7 => iprop(∃ X, owns (c : Thread nD τ) (rcvM k) fullShare X))
      ⊢ (iprop(∃ f : Buf (Elt F) ((c : Thread nD τ).loc cc0_scratch1), ((c : Thread nD τ).loc cc0_scratch1) ↦{fullShare} f) : sProp 𝕄) := by
  rw [any_whole]
  exact slots_join slotR_cuts c (Memref.whole cc0_scratch1 : Memref sig .tc .vmem S7x512x256 .bf16) (fun _ _ => rfl) (fun _ => squeezes_S1x512x256_S512x256)

theorem tile_slots (c : Dev nD) :
    (iprop((∃ f : Buf (Elt F) ((c : Thread nD τ).loc cc0_scratch2), ((c : Thread nD τ).loc cc0_scratch2) ↦{fullShare} f)
        ∗ BI.bigSep Finset.univ fun s : Fin 2 => semVal ((c : Thread nD τ), .dma (tileS s)) 0) : sProp 𝕄)
      ⊢ BI.bigSep Finset.univ fun s : Fin 2 => tileFree c s := by
  unfold tileFree
  rw [any_whole, bigSep_sep']; iintro ⟨⟨%X, H⟩, Hv⟩
  isplitl [H]
  · iapply (slots_split tileR_cuts c (Memref.whole cc0_scratch2 : Memref sig .tc .vmem S2x4096x256 .f32) (fun _ _ => rfl) (fun _ => squeezes_S1x4096x256_S4096x256) X) $$ H
  iexact Hv
theorem tile_whole (c : Dev nD) :
    (BI.bigSep Finset.univ fun s : Fin 2 => tileFree c s)
      ⊢ (iprop((∃ f : Buf (Elt F) ((c : Thread nD τ).loc cc0_scratch2), ((c : Thread nD τ).loc cc0_scratch2) ↦{fullShare} f)
        ∗ BI.bigSep Finset.univ fun s : Fin 2 => semVal ((c : Thread nD τ), .dma (tileS s)) 0) : sProp 𝕄) := by
  unfold tileFree
  rw [any_whole, bigSep_sep']
  exact sep_mono_left (slots_join tileR_cuts c (Memref.whole cc0_scratch2 : Memref sig .tc .vmem S2x4096x256 .f32) (fun _ _ => rfl) (fun _ => squeezes_S1x4096x256_S4096x256))

theorem stage_slots (c : Dev nD) :
    (iprop((∃ f : Buf (Elt F) ((c : Thread nD τ).loc cc0_scratch3), ((c : Thread nD τ).loc cc0_scratch3) ↦{fullShare} f)
        ∗ BI.bigSep Finset.univ fun s : Fin 2 => semVal ((c : Thread nD τ), .dma (stageS s)) 0) : sProp 𝕄)
      ⊢ BI.bigSep Finset.univ fun s : Fin 2 => stageFree c s := by
  unfold stageFree
  rw [any_whole, bigSep_sep']; iintro ⟨⟨%X, H⟩, Hv⟩
  isplitl [H]
  · iapply (slots_split stageR_cuts c (Memref.whole cc0_scratch3 : Memref sig .tc .vmem S2x512x256 .f32) (fun _ _ => rfl) (fun _ => squeezes_S1x512x256_S512x256) X) $$ H
  iexact Hv
theorem stage_whole (c : Dev nD) :
    (BI.bigSep Finset.univ fun s : Fin 2 => stageFree c s)
      ⊢ (iprop((∃ f : Buf (Elt F) ((c : Thread nD τ).loc cc0_scratch3), ((c : Thread nD τ).loc cc0_scratch3) ↦{fullShare} f)
        ∗ BI.bigSep Finset.univ fun s : Fin 2 => semVal ((c : Thread nD τ), .dma (stageS s)) 0) : sProp 𝕄) := by
  unfold stageFree
  rw [any_whole, bigSep_sep']
  exact sep_mono_left (slots_join stageR_cuts c (Memref.whole cc0_scratch3 : Memref sig .tc .vmem S2x512x256 .f32) (fun _ _ => rfl) (fun _ => squeezes_S1x512x256_S512x256))

end Cert.AllToAll

end
-- ==== Proof.Ghost.lean ====
/-
# The exchange's set-up

Before the kernels start, the cells of all devices are put under their invariants, and each device is dealt its positions
in its own cells, the tokens of the duties it will pay, and the credits of its waits on the other devices. A device's
barrier tokens go to the seven signallers, its receive tokens to the seven senders.
-/
module

public import proofs.«01_k».proof.Proof.Deal

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Over a device's cells -/

theorem bigSep_bool (Φ : Bool → sProp 𝕄) : BI.bigSep Finset.univ Φ = iprop(Φ false ∗ Φ true) :=
  bigSep_univ_eq_bigSepL [false, true] (by decide) (by decide) Φ

/-- A device's cells are its barrier, its send cells and its receive cells. -/
theorem bigSep_cells (Φ : CK → sProp 𝕄) :
    BI.bigSep Finset.univ Φ = iprop(Φ none ∗ (BI.bigSep Finset.univ fun k : Fin 7 => Φ (some (false, k))) ∗ BI.bigSep Finset.univ fun k : Fin 7 => Φ (some (true, k))) := by
  rw [bigSep_option, bigSep_univ_prod, bigSep_bool]

/-! ## The launch element -/

def xchgCells : Finset (GSem nD τ sig) := Finset.univ.map ⟨kcell, kcell_injective⟩

/-- The tokens of a device's own cells: seven at its barrier, one at each send and receive cell. -/
abbrev TK : Type := Fin 7 ⊕ (Bool × Fin 7)
def tokOf : Dev nD × TK → GSem nD τ sig × ℕ × Fin 7
  | (c, .inl d) => (kcell (c, none), 0, d)
  | (c, .inr p) => (kcell (c, some p), 0, 0)

theorem tokOf_injective : Function.Injective tokOf := by
  rintro ⟨c, d | p⟩ ⟨c', d' | p'⟩ h
  · have h1 := kcell_injective (congrArg Prod.fst h)
    have h2 : d = d' := congrArg (fun x => x.2.2) h
    rw [h2, (Prod.mk.inj h1).1]
  · exact absurd (kcell_injective (congrArg Prod.fst h)) (by intro e; cases (Prod.mk.inj e).2)
  · exact absurd (kcell_injective (congrArg Prod.fst h)) (by intro e; cases (Prod.mk.inj e).2)
  · have h1 := Prod.mk.inj (kcell_injective (congrArg Prod.fst h))
    rw [h1.1, Option.some.inj h1.2]

def xchgToks : Finset (GSem nD τ sig × ℕ × Fin 7) := Finset.univ.map ⟨tokOf, tokOf_injective⟩

def u₀ : UU := (initOf (Pipeline.cells cfgs cellOf_inj) (Pipeline.launchToks cfgs cellOf_inj), (initOf xchgCells xchgToks, 1))

/-- The tokens of device `c`'s own cells. -/
def ownToks (c : Dev nD) : sProp 𝕄 :=
  iprop((BI.bigSep Finset.univ fun d : Fin 7 => dutyTok ER (barCell c) 0 d)
    ∗ (BI.bigSep Finset.univ fun k : Fin 7 => dutyTok ER (sndCell c k) 0 0)
    ∗ BI.bigSep Finset.univ fun k : Fin 7 => dutyTok ER (rcvCell c k) 0 0)
/-- The tokens of the duties device `c` pays. -/
def payToks (c : Dev nD) : sProp 𝕄 :=
  iprop((BI.bigSep Finset.univ fun j : Fin 7 => dutyTok ER (barCell (sgn j c)) 0 (slotOf j c))
    ∗ BI.bigSep Finset.univ fun k : Fin 7 => sendToks c k)

/-- What the launch element gives device `c`. -/
def dealt (c : Dev nD) : sProp 𝕄 :=
  iprop((BI.bigSep Finset.univ fun ck : CK => roundState ER (xchg m) (kcell (c, ck)) 0)
    ∗ (BI.bigSep Finset.univ fun ck : CK => iprop(atPos ER (kcell (c, ck)) 0 ∅ 0 ∗ reached ER (kcell (c, ck)) 0)) ∗ ownToks c)

theorem fund_xchg : BI.own (ER (initOf xchgCells xchgToks)) ⊢ (|==> BI.bigSep Finset.univ (dealt m) : sProp 𝕄) := by
  have hX (Φ : GSem nD τ sig → sProp 𝕄) : BI.bigSep xchgCells Φ = BI.bigSep Finset.univ fun c : Dev nD => BI.bigSep Finset.univ fun ck : CK => Φ (kcell (c, ck)) := by
    unfold xchgCells; rw [bigSep_map, bigSep_univ_prod]; rfl
  have hT : BI.bigSep xchgToks (fun x => (dutyTok ER x.1 x.2.1 x.2.2 : sProp 𝕄)) = BI.bigSep Finset.univ fun c : Dev nD => ownToks c := by
    unfold xchgToks; rw [bigSep_map, bigSep_univ_prod]
    exact bigSep_congr fun c _ => by
      unfold ownToks; rw [BI.bigSep_univ_sum, bigSep_univ_prod, bigSep_bool]; rfl
  iintro HX
  imod (Rounds.fund ER (xchg m) xchgCells xchgToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat']; · iexact Hat'
    iexact Hr'
  iexact Htok'

/-! ## The semaphores -/

/-- The kernel's own semaphores: fourteen of the exchange, four of the double buffers. -/
abbrev OK : Type := (Bool × Fin 7) ⊕ (Bool × Fin 2)
def osem : OK → SemLoc sig
  | .inl p => cellSem (some p)
  | .inr (false, s) => .dma (tileS s)
  | .inr (true, s) => .dma (stageS s)

theorem ownSemFacts : Pipeline.OwnSemFacts cfg0.spec osem := by decide

/-- The semaphores of the two double buffers, at zero. -/
def bufSems (c : Dev nD) : sProp 𝕄 :=
  iprop((BI.bigSep Finset.univ fun s : Fin 2 => semVal ((c : Thread nD τ), .dma (tileS s)) 0)
    ∗ BI.bigSep Finset.univ fun s : Fin 2 => semVal ((c : Thread nD τ), .dma (stageS s)) 0)

theorem ownSems0_eq (c : Dev nD) : (Pipeline.ownSems0 (Ix := Unit) (Name := ℕ) (U := UU) (Lvl := ℕ) (Val := Elt F) (τ := τ) osem c : sProp 𝕄)
    = iprop(((BI.bigSep Finset.univ fun k : Fin 7 => semVal (sndCell c k) 0) ∗ BI.bigSep Finset.univ fun k : Fin 7 => semVal (rcvCell c k) 0) ∗ bufSems c) := by
  unfold Pipeline.ownSems0 bufSems
  rw [BI.bigSep_univ_sum, bigSep_univ_prod, bigSep_bool, bigSep_univ_prod, bigSep_bool]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop((BI.bigSep Finset.univ fun ck : CK => semVal (kcell (c, ck)) 0) ∗ bufSems c) : sProp 𝕄) := by
  rw [ownSems0_eq, unscopedSems0_eq, bigSep_cells]
  iintro ⟨⟨⟨HS, HV⟩, HL⟩, HB⟩
  isplitr [HL]
  · isplitl [HB]; · iexact HB
    isplitl [HS]; · iexact HS
    iexact HV
  iexact HL

/-- One device's cells put under invariants. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((BI.bigSep Finset.univ fun ck : CK => iprop(∃ κ : ℕ, cellInv ER (xchg m) κ (kcell (c, ck))))
          ∗ (BI.bigSep Finset.univ fun ck : CK => iprop(atPos ER (kcell (c, ck)) 0 ∅ 0 ∗ reached ER (kcell (c, ck)) 0)) ∗ ownToks c ∗ bufSems c) := by
  unfold dealt
  iintro ⟨Hos, Hus, Hst, Hat, Htok⟩
  ihave Hv := (sems_split (F := F) c) $$ [Hos Hus]
  · isplitl [Hos]; · iexact Hos
    iexact Hus
  icases Hv with ⟨Hv, HL⟩
  imod (show iprop((BI.bigSep Finset.univ fun ck : CK => semVal (kcell (c, ck)) 0) ∗ BI.bigSep Finset.univ fun ck : CK => roundState ER (xchg m) (kcell (c, ck)) 0)
      ⊢ (|={Set.univ}=> BI.bigSep Finset.univ fun ck : CK => iprop(∃ κ : ℕ, cellInv ER (xchg m) κ (kcell (c, ck))) : sProp 𝕄) from by
        rw [← bigSep_sep']
        exact (bigSep_mono fun ck _ => (Rounds.body_intro ER (xchg m) (kcell (c, ck))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact HL

/-! ## Dealing the tokens -/

/-- Resources indexed by device and slot, renamed by a matching of the pairs. -/
theorem rematch (e : Dev nD × Fin 7 ≃ Dev nD × Fin 7) (Φ : Dev nD → Fin 7 → sProp 𝕄) :
    (BI.bigSep Finset.univ fun c : Dev nD => BI.bigSep Finset.univ fun k : Fin 7 => Φ c k)
      = BI.bigSep Finset.univ fun c : Dev nD => BI.bigSep Finset.univ fun k : Fin 7 => Φ (e (c, k)).1 (e (c, k)).2 := by
  rw [← bigSep_univ_prod (fun p : Dev nD × Fin 7 => Φ p.1 p.2), bigSep_univ_equiv e, bigSep_univ_prod]

theorem toks_dealt : (BI.bigSep Finset.univ fun c : Dev nD => (ownToks c : sProp 𝕄)) ⊢ BI.bigSep Finset.univ fun c : Dev nD => payToks c := by
  unfold ownToks payToks sendToks
  simp only [bigSep_sep']
  rw [rematch signalMatch (fun c d => (dutyTok ER (barCell c) 0 d : sProp 𝕄)), rematch sendMatch (fun c k => (dutyTok ER (rcvCell c k) 0 0 : sProp 𝕄))]
  exact .rfl

/-- A device's positions in its own cells. -/
def positions (c : Dev nD) : sProp 𝕄 :=
  iprop(atPos ER (barCell c) 0 ∅ 0 ∗ (BI.bigSep Finset.univ fun k : Fin 7 => atPos ER (sndCell c k) 0 ∅ 0)
    ∗ BI.bigSep Finset.univ fun k : Fin 7 => atPos ER (rcvCell c k) 0 ∅ 0)

/-- What device `c` takes part in the exchange with. -/
def part (c : Dev nD) : sProp 𝕄 := iprop(∃ K, records m K ∗ positions c ∗ payToks c ∗ bufSems c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ BI.bigSep S Φ) ⊢ BI.bigSep S Ψ :=
  (sep_mono_left (BI.bigSep_of_persistent S R)).trans (by rw [← bigSep_sep']; exact bigSep_mono h)

theorem regroup :
    (BI.bigSep Finset.univ fun c : Dev nD => iprop((BI.bigSep Finset.univ fun ck : CK => iprop(∃ κ : ℕ, cellInv ER (xchg m) κ (kcell (c, ck))))
          ∗ (BI.bigSep Finset.univ fun ck : CK => iprop(atPos ER (kcell (c, ck)) 0 ∅ 0 ∗ reached ER (kcell (c, ck)) 0)) ∗ ownToks c ∗ bufSems c) : sProp 𝕄)
      ⊢ BI.bigSep Finset.univ (part m) := by
  rw [bigSep_sep', bigSep_sep', bigSep_sep', ← bigSep_univ_prod (fun p : Dev nD × CK => iprop(∃ κ : ℕ, cellInv ER (xchg m) κ (kcell p))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun p : Dev nD × CK => (reached ER (kcell p) 0 : sProp 𝕄))]
  iintro ⟨HI, ⟨Hat, #HR⟩, Htok, HL⟩
  ihave HK := (BI.bigSep_exists_pi Finset.univ (fun (p : Dev nD × CK) (κ : ℕ) => (cellInv ER (xchg m) κ (kcell p) : sProp 𝕄))) $$ HI
  icases HK with ⟨%K, #HI⟩
  ihave Htk := (toks_dealt (F := F)) $$ Htok
  iapply (with_persistent (R := records m K) (Φ := fun c => iprop(positions c ∗ payToks c ∗ bufSems c)) fun c _ => show _ ⊢ part m c from by
    unfold part; iintro H; iexists K; iexact H)
  isplitr
  · unfold records; isplitl; · iexact HI
    iexact HR
  rw [bigSep_sep', bigSep_sep']
  isplitl [Hat]
  · iapply (show (BI.bigSep Finset.univ fun c : Dev nD => BI.bigSep Finset.univ fun ck : CK => (atPos ER (kcell (c, ck)) 0 ∅ 0 : sProp 𝕄)) ⊢ BI.bigSep Finset.univ positions from
      bigSep_mono fun c _ => Entails.of_eq (bigSep_cells (fun ck : CK => (atPos ER (kcell (c, ck)) 0 ∅ 0 : sProp 𝕄)))) $$ Hat
  isplitl [Htk]; · iexact Htk
  iexact HL

/-- All devices' cells put under invariants, and the parts dealt. -/
theorem glob : (BI.bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> BI.bigSep Finset.univ (part m) :=
  ((bigSep_mono fun c _ => core_alloc m c).trans (bigSep_fupd _ _)).trans (BI.fupd_mono (regroup m))

/-! ## The credits -/

theorem tally_cell (p q : Dev nD × CK) (a : ℕ) : tallyAt (kcell p) () a (kcell q) () = if p = q then a else 0 := by
  rw [tallyAt_apply]
  by_cases h : p = q
  · subst h; rw [if_pos ⟨rfl, rfl⟩, if_pos rfl]
  · rw [if_neg fun h' => h (kcell_injective h'.1).symm, if_neg h]

/-- What all devices together owe a cell: seven units at a barrier, a block at a receive cell. -/
def owedTo : CK → ℕ
  | none => 7
  | some (false, _) => 0
  | some (true, _) => N

theorem owed_start (d : Dev nD) (q : Dev nD × CK) :
    owed 0 0 d (kcell q) () = (∑ j : Fin 7, if ((sgn j d, none) : Dev nD × CK) = q then 1 else 0) + ∑ k : Fin 7, if ((tgt k d, some (true, k)) : Dev nD × CK) = q then N else 0 := by
  unfold owed tailSum
  rw [Pi.add_apply, Finsupp.add_apply, Finset.sum_apply, Finset.sum_apply, Finsupp.finset_sum_apply, Finsupp.finset_sum_apply]
  congr 1
  · exact Finset.sum_congr rfl fun j _ => by rw [if_pos (Nat.zero_le _)]; exact tally_cell (sgn j d, none) q 1
  · exact Finset.sum_congr rfl fun k _ => by rw [if_pos (Nat.zero_le _)]; exact tally_cell (tgt k d, some (true, k)) q N

theorem sum_rematch (e : Dev nD × Fin 7 ≃ Dev nD × Fin 7) (f : Dev nD → Fin 7 → ℕ) :
    (∑ d : Dev nD, ∑ k : Fin 7, f (e (d, k)).1 (e (d, k)).2) = ∑ d : Dev nD, ∑ k : Fin 7, f d k := by
  rw [← Fintype.sum_prod_type' (f := fun d k => f (e (d, k)).1 (e (d, k)).2), ← Fintype.sum_prod_type' (f := f)]
  exact Equiv.sum_comp e fun p => f p.1 p.2

theorem owed_total (c : Dev nD) (ck : CK) : ∑ d : Dev nD, owed 0 0 d (kcell (c, ck)) () = owedTo ck := by
  rw [Finset.sum_congr rfl fun d _ => owed_start d (c, ck), Finset.sum_add_distrib]
  have h1 : (∑ d : Dev nD, ∑ j : Fin 7, if ((sgn j d, none) : Dev nD × CK) = (c, ck) then 1 else 0) = ∑ e : Dev nD, ∑ k : Fin 7, if ((e, none) : Dev nD × CK) = (c, ck) then 1 else 0 :=
    sum_rematch signalMatch fun e _ => if ((e, none) : Dev nD × CK) = (c, ck) then 1 else 0
  have h2 : (∑ d : Dev nD, ∑ k : Fin 7, if ((tgt k d, some (true, k)) : Dev nD × CK) = (c, ck) then N else 0)
      = ∑ e : Dev nD, ∑ k : Fin 7, if ((e, some (true, k)) : Dev nD × CK) = (c, ck) then N else 0 :=
    sum_rematch sendMatch fun e k => if ((e, some (true, k)) : Dev nD × CK) = (c, ck) then N else 0
  rw [h1, h2]
  rcases ck with _ | ⟨_ | _, i⟩
  · revert c; decide
  · simp [owedTo]
  · rw [Finset.sum_eq_zero fun e _ => Finset.sum_eq_zero fun k _ => if_neg (by intro h; cases (Prod.mk.inj h).2), Nat.zero_add,
      Finset.sum_eq_single c (fun e _ he => Finset.sum_eq_zero fun k _ => if_neg fun h => he (Prod.mk.inj h).1) (fun h => absurd (Finset.mem_univ _) h),
      Finset.sum_eq_single i (fun k _ hk => if_neg fun h => hk (Prod.mk.inj (Option.some.inj (Prod.mk.inj h).2)).2) (fun h => absurd (Finset.mem_univ _) h), if_pos rfl]
    rfl

theorem launch_cell (c : Dev nD) (ck : CK) :
    tallyOn (kcell (c, ck)) (launchCredit (Pipeline.owing (owed 0 0)) 0 (kcell (c, ck))) = (tallyAt (kcell (c, ck)) () (owedTo ck) : CellTallies nD τ sig Unit) := by
  unfold tallyAt; refine congrArg _ (Finsupp.ext fun u => ?_); cases u
  rw [Pipeline.launchCredit_owing, Finsupp.single_eq_same, owed_total]

/-- The credits a device waits with. -/
def credits (c : Dev nD) : sProp 𝕄 :=
  iprop(cred (tallyAt (barCell c) () 7) ∗ BI.bigSep Finset.univ fun k : Fin 7 => cred (tallyAt (rcvCell c k) () N))

theorem creds (c : Dev nD) : (Pipeline.launchCred (owed 0 0) c : sProp 𝕄) ⊢ credits c := by
  unfold Pipeline.launchCred credits
  rw [BI.bigSep_sdiff_split (Finset.subset_univ (Finset.univ.map cellEmb)), bigSep_map]
  refine (sep_mono_left (Entails.of_eq ((bigSep_congr (s := Finset.univ)
    (Ψ := fun ck : CK => (cred (tallyAt (kcell (c, ck)) () (owedTo ck)) : sProp 𝕄)) fun ck _ => congrArg cred (launch_cell c ck)).trans (bigSep_cells _)))).trans ?_
  iintro ⟨⟨Hb, -, Hr⟩, -⟩
  isplitl [Hb]; · iexact Hb
  iexact Hr

end Cert.AllToAll

end
-- ==== Proof.Launch.lean ====
/-
# The whole run

From any memory, every device's program runs to an end: the arguments hold what they held, the result array of device
`c` holds `result m c`, and every semaphore is at zero. The run is stated at any interpretation of the floats.
-/
module

public import proofs.«01_k».proof.Proof.Ghost
public import proofs.«01_k».proof.Proof.Gen.KernelIdeal.Frame
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the kernel call -/

/-- The two arrays the kernel reads and writes by its own copies, the result holding `f`. -/
def arrays (c : Dev nD) (f : Buf (Elt F) ((c : Thread nD τ).loc main_v1)) : sProp 𝕄 :=
  iprop(((c : Thread nD τ).loc main_arg1 ↦{fullShare} m ((c : Thread nD τ).loc main_arg1)) ∗ ((c : Thread nD τ).loc main_v1 ↦{fullShare} f))

/-- The arrays after the run. -/
def final (c : Dev nD) : sProp 𝕄 := arrays m c (result m c : Buf (Elt F) ((c : Thread nD τ).loc main_v1))

/-- The scratch buffers, at whatever contents. -/
abbrev scratches (c : Dev nD) : sProp 𝕄 := Pipeline.scopedRest (Ix := Unit) (Name := ℕ) (U := UU) (Lvl := ℕ) (Val := Elt F) cfg0.spec c

/-- Every semaphore of the exchange and of the double buffers, at zero. -/
def closed (c : Dev nD) : sProp 𝕄 := iprop(unscopedSems0 c ∗ Pipeline.ownSems0 (Ix := Unit) (Name := ℕ) (U := UU) (Lvl := ℕ) (Val := Elt F) (τ := τ) osem c)

/-- What the body starts with, apart from the scratch buffers. -/
def start (c : Dev nD) : sProp 𝕄 :=
  iprop(part m c ∗ credits c ∗ levAts L lv ∗ arrays m c (m ((c : Thread nD τ).loc main_v1)))

def dats (_ : Fin 1) (c : Dev nD) : Dat τ (Elt F) Unit ℕ UU ℕ cfg0 c where
  A w := m ((cfg0.win w).arr.view.loc (c : Thread nD τ))
  after w _ := match w with
    | ⟨0, _⟩ => xBlk m c
  Φ t := match t with
    | ⟨0, _⟩ => iprop(start m c ∗ scratches c)
    | ⟨_ + 1, _⟩ => iprop((closed c ∗ final m c) ∗ scratches c)
  q _ := fullShare
  owed t := match t with
    | ⟨0, _⟩ => owed 0 0 c
    | ⟨_ + 1, _⟩ => 0

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_local c 0 0 (by unfold Local; fin_cases w; fin_cases s; decide)
    · rw [show (dats m 0 c).owed ⟨_ + 1, ht⟩ = owed 7 7 c from (owed_end c).symm]
      exact mayWait_local c 7 7 (by unfold Local; fin_cases w; fin_cases s; decide)

/-! ## The body's obligation -/

theorem staged_x (c : Dev nD) (t : Fin cfg0.N) (d) : (dats m 0 c).before (0 : Fin 1) t d = xBlk m c := by
  unfold Dat.before
  rw [if_pos (fetch0_0 t)]
  rfl

/-- The buffers and the part dealt to a device make up what the body's run starts from. -/
theorem gather (c : Dev nD) (f : Buf (Elt F) ((c : Thread nD τ).loc main_v1)) :
    iprop((positions c ∗ payToks c ∗ bufSems c) ∗ credits c ∗ arrays m c f ∗ scratches c ∗ owns (c : Thread nD τ) (Memref.whole cc0_stg0_0) fullShare (xBlk m c))
      ⊢ (before m c : sProp 𝕄) := by
  unfold before common positions payToks bufSems credits arrays signalRes scratches
  rw [scopedRest0_eq, cols_eq, bigSep_sep']
  iintro ⟨⟨⟨Hb, Hs, Hv⟩, ⟨Htb, Hts⟩, Ht, Hg⟩, ⟨Hcb, Hcr⟩, ⟨Hw, Hy⟩, ⟨H0, H1, H2, H3⟩, Hx⟩
  ihave Hy := (rows_split (F := F) c f) $$ Hy
  ihave H0 := (snd_slots (F := F) c) $$ H0
  ihave H1 := (rcv_slots (F := F) c) $$ H1
  ihave H2 := (tile_slots (F := F) c) $$ [H2 Ht]
  · isplitl [H2]; · iexact H2
    iexact Ht
  ihave H3 := (stage_slots (F := F) c) $$ [H3 Hg]
  · isplitl [H3]; · iexact H3
    iexact Hg
  isplitl [H2 H3 Hx Hw]
  · isplitl [H2]; · iexact H2
    isplitl [H3]; · iexact H3
    isplitl [Hx]; · iexact Hx
    iexact Hw
  isplitl [Hy]; · iexact Hy
  isplitl [H0]; · iexact H0
  isplitl [Htb H1]
  · isplitl [Htb]; · iexact Htb
    iexact H1
  isplitl [Hts]; · iexact Hts
  isplitl [Hcb Hcr]
  · isplitl [Hcb]; · iexact Hcb
    iexact Hcr
  isplitl [Hb]; · iexact Hb
  isplitl [Hs]; · iexact Hs
  iexact Hv

/-- And what it ends with makes up the buffers again. -/
theorem scatter (c : Dev nD) :
    (afterwards m c : sProp 𝕄)
      ⊢ iprop(((closed c ∗ final m c) ∗ scratches c) ∗ owns (c : Thread nD τ) (Memref.whole cc0_stg0_0) fullShare (xBlk m c)) := by
  unfold afterwards common closed final arrays scratches
  rw [scopedRest0_eq, cols_eq, ownSems0_eq, unscopedSems0_eq]
  unfold bufSems
  iintro ⟨⟨H2, H3, Hx, Hw⟩, Hy, H0, H1, Hb, Hs, Hv⟩
  ihave Hy := (rows_join m c) $$ Hy
  ihave H0 := (snd_whole (F := F) c) $$ H0
  ihave H1 := (rcv_whole (F := F) c) $$ H1
  ihave H2 := (tile_whole (F := F) c) $$ H2
  ihave H3 := (stage_whole (F := F) c) $$ H3
  icases H2 with ⟨H2, Ht⟩
  icases H3 with ⟨H3, Hg⟩
  isplitr [Hx]
  · isplitr [H0 H1 H2 H3]
    · isplitr [Hw Hy]
      · isplitl [Hb]; · iexact Hb
        isplitr [Ht Hg]
        · isplitl [Hs]; · iexact Hs
          iexact Hv
        isplitl [Ht]; · iexact Ht
        iexact Hg
      isplitl [Hw]; · iexact Hw
      iexact Hy
    isplitl [H0]; · iexact H0
    isplitl [H1]; · iexact H1
    isplitl [H2]; · iexact H2
    iexact H3
  iexact Hx

set_option maxRecDepth 4000 in
def bodyPre (c : Dev nD) : sProp 𝕄 :=
  iprop((start m c ∗ scratches c) ∗ (dats m 0 c).owesAt () t0_0.castSucc
    ∗ (∃ d, owns (c : Thread nD τ) (Memref.whole cc0_stg0_0) fullShare ((dats m 0 c).before (0 : Fin 1) t0_0 d)))

set_option maxRecDepth 4000 in
def bodyPost (c : Dev nD) : sProp 𝕄 :=
  iprop(((closed c ∗ final m c) ∗ scratches c) ∗ (dats m 0 c).owesAt () t0_0.succ
    ∗ owns (c : Thread nD τ) (Memref.whole cc0_stg0_0) fullShare (xBlk m c))

theorem body_step (c : Dev nD) : bodyPre m c ⊢ run c (bodyAt0 t0_0) (fun _ => bodyPost m c) := by
  unfold bodyPre start part
  iintro ⟨⟨⟨⟨%K, HR, Hpart⟩, Hcr, Hlev, Harr⟩, Hscr⟩, Ho, ⟨%d, Hx⟩⟩
  rw [staged_x]
  unfold Dat.owesAt Pipeline.owesWithin
  icases Ho with ⟨%W, -, Ho⟩
  ihave Hbef := (gather m c _) $$ [Hpart Hcr Harr Hscr Hx]
  · isplitl [Hpart]; · iexact Hpart
    isplitl [Hcr]; · iexact Hcr
    isplitl [Harr]; · iexact Harr
    isplitl [Hscr]; · iexact Hscr
    iexact Hx
  iapply (body_run m K c t0_0 (fun _ => bodyPost m c)) $$ [HR Hlev Ho Hbef]
  · isplitl [HR]; · iexact HR
    isplitl [Hlev]; · iexact Hlev
    isplitl [Ho]
    · unfold ow; iexists W; iexact Ho
    iexact Hbef
  iintro ⟨Ho, Haft⟩
  rw [owed_end]
  unfold ow bodyPost Dat.owesAt Pipeline.owesWithin
  icases Ho with ⟨%W', Ho⟩
  ihave H := (scatter m c) $$ Haft
  icases H with ⟨H, Hx⟩
  isplitl [H]; · iexact H
  isplitl [Ho]
  · iexists W'; isplitr
    · ipureintro; exact fun _ _ => Or.inl trivial
    iexact Ho
  iexact Hx

/-- The library's obligation on the body of the kernel, at device `c`. -/
theorem body_obligation (c : Dev nD) : BodyObligation (dats (F := F) m 0 c) (defs₀ (F := F)) 𝒱₀ () Set.univ := fun t => by
  rw [fin_N0 t]
  rw [bigSep_W0, bigSep_W0]
  exact body_step m c

/-! ## The launch -/

theorem start_intro (c : Dev nD) :
    iprop(Pipeline.unscopedRestP Pipeline.Prefetch.none cfg0.spec c (fun b => m ((c : Thread nD τ).loc b)) ∗ levAts L lv
        ∗ Pipeline.launchCred (owed 0 0) c ∗ prngReg c (ρ c) ∗ part m c)
      ⊢ |={Set.univ}=> iprop(start m c ∗ emp) := by
  rw [Pipeline.unscopedRestP_none, unscopedRest0_eq]
  unfold start arrays
  iintro ⟨Harr, Hlev, Hcr, -, HG⟩
  ihave Hc := (creds (F := F) c) $$ Hcr
  imodintro
  isplitl
  · isplitl [HG]; · iexact HG
    isplitl [Hc]; · iexact Hc
    isplitl [Hlev]; · iexact Hlev
    iexact Harr
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratches c) from rfl]
  iintro ⟨Hs, -, Hr⟩
  isplitl [Hs]; · iexact Hs
  iexact Hr

theorem leave (c : Dev nD) :
    (dats m 0 c).Φ (Fin.last cfg0.N)
      ⊢ iprop((unscopedSems0 c ∗ final m c) ∗ Pipeline.ownSems0 osem c ∗ Pipeline.scopedRest cfg0.spec c) := by
  rw [show (dats m 0 c).Φ (Fin.last cfg0.N) = iprop((closed c ∗ final m c) ∗ scratches c) from rfl]
  unfold closed
  iintro ⟨⟨⟨Hu, Ho⟩, Hf⟩, Hr⟩
  isplitl [Hu Hf]
  · isplitl [Hu]; · iexact Hu
    iexact Hf
  isplitl [Ho]; · iexact Ho
  iexact Hr

/-- What device `c` shows at the end. -/
def Shows (c : Dev nD) (s : MemSt nD τ sig (Elt F)) : Prop :=
  (s.mem ((c : Thread nD τ).loc main_arg1) = m ((c : Thread nD τ).loc main_arg1)
      ∧ s.mem ((c : Thread nD τ).loc main_v1) = (result m c : Buf (Elt F) ((c : Thread nD τ).loc main_v1)))
    ∧ ∀ sm : SemLoc sig, sm.isScoped .tc = false → s.sem ((c.tc : Thread nD τ), sm) = 0

/-- The end of the whole run. -/
def Ends (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = (result m c : Buf (Elt F) ((c : Thread nD τ).loc main_v1)))
    ∧ r.2.sem = fun _ => 0

set_option maxRecDepth 8000 in
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m) (hne := block_pos0) (harr := arr_whole0) (hstage := stage_whole0) (hshare := share_eq m)
    (hdistinct := winFacts0.arr_inj) (O₀ := owed 0 0) (howed₀ := fun _ => rfl) (howedN := fun _ => rfl)
    (L := L) (lv := lv) (hL := L_of_ne) (hwaits := waits m) (G := dealt m) (G' := part m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_xchg m) $$ HX with HG
      imodintro
      isplitl [HP]; · iexact HP
      iexact HG)
    (hglob := glob m) (hA := fun _ _ => rfl) (hpf := fun _ k => k.elim0)
    (X := start m) (Y := fun c => iprop(unscopedSems0 c ∗ final m c)) (Z := fun _ => iprop(emp))
    (hX := start_intro m ρ) (hin := enter m) (hout := leave m) (QY := Shows m)
    (hY := fun c s' => by
      unfold final arrays
      iintro ⟨⟨Hu, Hw, Hy⟩, -, HSI⟩
      icombine HSI Hw gives %hw
      icombine HSI Hy gives %hy
      imod (Pipeline.unscopedSems0_read (X := unscopedSems0 c) (c := c) fupd_intro s') $$ [Hu HSI] with ⟨%hz, HSI⟩
      · isplitl [Hu]; · iexact Hu
        iexact HSI
      imodintro
      isplitr; · ipureintro; exact ⟨⟨Buf.eq_of_forall_mem_univ hw, Buf.eq_of_forall_mem_univ hy⟩, hz⟩
      iexact HSI)
    (hQ := fun s h hs => ⟨fun c => ⟨((h c).1 0).trans ((dats (F := F) m 0 c).arrAt_in (0 : Fin 1) rfl _), (h c).2.2.1⟩, sem_eq_zero hs fun c => (h c).2.2.2⟩)

end Cert.AllToAll

end
-- ==== Proof.Silu.lean ====
/-
# The activation over the extended reals

The kernel multiplies `y` by its logistic; the reference divides `y` by `1 + exp (-y')`, where `y'` is `y` clipped to
[-60, 60]. The two agree as soon as the clip does nothing.
-/
module

public import Idealize.ShloMosaic.Lib.IdealHost

@[expose] public section

noncomputable section

namespace Cert.AllToAll

open Idealize.ShloMosaic

/-- What the kernel makes of a product's entry. -/
def silu (y : EReal) : EReal := y * Ideal.logistic y

/-- What the reference makes of it. -/
def clippedSilu (y : EReal) : EReal :=
  Ideal.div y (Ideal.ofBits .f32 0x3F800000#32
    + Ideal.exp (-(min (Ideal.ofBits .f32 0x42700000#32) (max (Ideal.ofBits .f32 0xC2700000#32) y))))

theorem bits_60 : Ideal.ofBits .f32 0x42700000#32 = ((60 : ℝ) : EReal) := by
  simp [Ideal.ofBits, Ideal.ieee, -EReal.coe_mul]; norm_num
theorem bits_neg_60 : Ideal.ofBits .f32 0xC2700000#32 = -((60 : ℝ) : EReal) := by
  rw [← EReal.coe_neg]
  simp [Ideal.ofBits, Ideal.ieee, -EReal.coe_mul, -EReal.coe_neg]; norm_num

theorem exp_nonneg (x : EReal) : 0 ≤ Ideal.exp x := by
  induction x with
  | bot => exact le_refl _
  | top => exact le_top
  | coe r => exact EReal.coe_nonneg.mpr (Real.exp_pos r).le

theorem one_add_exp_ne (x : EReal) : 1 + Ideal.exp x ≠ 0 := fun h => by
  have h1 : (1 : EReal) ≤ 1 + Ideal.exp x := le_add_of_nonneg_right (exp_nonneg x)
  rw [h] at h1
  exact absurd h1 (by norm_num)

/-- The two agree where the clip does nothing. -/
theorem clippedSilu_eq {y : EReal} (h : max y (-y) ≤ Ideal.ofBits .f32 0x42700000#32) : clippedSilu y = silu y := by
  rw [bits_60] at h
  have hlo : -((60 : ℝ) : EReal) ≤ y := EReal.neg_le.mp ((le_max_right _ _).trans h)
  have hhi : y ≤ ((60 : ℝ) : EReal) := (le_max_left _ _).trans h
  unfold clippedSilu silu Ideal.logistic Ideal.div
  rw [bits_60, bits_neg_60, max_eq_right hlo, min_eq_right hhi, Ideal.ofBits_one_f32, if_neg (one_add_exp_ne _), if_neg (one_add_exp_ne _), one_mul]

end Cert.AllToAll

end
-- ==== Proof.Value.lean ====
/-
# The kernel's result over the extended reals

With exact floats a cast between float types does nothing, so a block a device sends is the block it computes. Every
entry of device `c`'s result is then the activation of one entry of the product: row `i` of the input, column `256 c + j`
of the weights held by the device whose rows these are.
-/
module

public import proofs.«01_k».proof.Proof.Deal
public import proofs.«01_k».proof.Proof.Silu
public import Idealize.ShloMosaic.Lib.MatmulPlain
public import Idealize.ShloMosaic.Lib.Pipeline.Value

@[expose] public section

noncomputable section

namespace Cert.AllToAll

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ)

/-- Device `c`'s rows of the input, and its copy of the weights. -/
abbrev xOf (c : Dev nD) : FVec Ideal S512x4096 .f32 := m ((c : Thread nD τ).loc main_arg0)
abbrev wOf (c : Dev nD) : FVec Ideal S4096x2048 .f32 := m ((c : Thread nD τ).loc main_arg1)

/-- Column `j` of column block `t`. -/
def colNo (t : Dev nD) (j : Fin 256) : Fin 2048 := ⟨256 * t.val + j.val, by have ht : t.val < 8 := t.isLt; have := j.isLt; omega⟩

theorem xBlk_apply (c : Dev nD) (r : Fin 512) (k : Fin 4096) : xBlk m c (ix2 r k) = xOf m c (ix2 r k) :=
  congrArg (xOf m c) (Shape.idx_ext₂ (by show 0 + 1 * r.val = r.val; omega) (by show 0 + 1 * k.val = k.val; omega))

theorem wCol_apply (c t : Dev nD) (k : Fin 4096) (j : Fin 256) : wCol m c t (ix2 k j) = wOf m c (ix2 k (colNo t j)) :=
  congrArg (wOf m c) (Shape.idx_ext₂ (by show 0 + 1 * k.val = k.val; omega) (by show 256 * t.val + 1 * j.val = 256 * t.val + j.val; omega))

/-- One entry of a row block's activated product. -/
theorem product_apply (X : FVec Ideal S512x4096 .f32) (W : FVec Ideal S4096x256 .f32) (r : Fin 512) (j : Fin 256) :
    matmul dot_S512x4096_S4096x256_S512x256_1_0_0_1_n_n none (truncf .bf16 X bitsLt_bf16_f32) (truncf .bf16 W bitsLt_bf16_f32)
        (constant S512x256 .f32 0x00000000#32) (ix2 r j)
      = ∑ k : Fin 4096, X (ix2 r k) * W (ix2 k j) := by
  refine (Ideal.matmul_plain_apply (M := 512) (K := 4096) (N := 256) none (truncf .bf16 X bitsLt_bf16_f32) (truncf .bf16 W bitsLt_bf16_f32)
    (constant S512x256 .f32 0x00000000#32) r j).trans ?_
  rw [show (constant (F := Ideal) S512x256 .f32 0x00000000#32 : FVec Ideal S512x256 .f32) (ix2 r j) = 0 from Ideal.ofBits_zero_f32, zero_add]
  rfl

theorem ownRow_apply (c : Dev nD) (r : Fin 512) (j : Fin 256) :
    ownRow m c (ix2 r j) = silu (∑ k : Fin 4096, xOf m c (ix2 r k) * wOf m c (ix2 k (colNo c j))) := by
  unfold ownRow ownVal k0_pay9 k0_pay1
  simp only [shapeCast_self, shapeCast_shapeCast]
  refine (congrArg silu (product_apply (xBlk m c) (wCol m c c) r j)).trans (congrArg silu (Finset.sum_congr rfl fun k _ => ?_))
  rw [xBlk_apply, wCol_apply]

theorem gotRow_apply (e c : Dev nD) (r : Fin 512) (j : Fin 256) :
    gotRow m e c (ix2 r j) = silu (∑ k : Fin 4096, xOf m e (ix2 r k) * wOf m e (ix2 k (colNo c j))) := by
  unfold gotRow gotVal blkVal sndVal k0_pay10 k0_pay2 k0_pay1
  simp only [shapeCast_self, shapeCast_shapeCast]
  refine (congrArg silu (product_apply (xBlk m e) (wCol m e c) r j)).trans (congrArg silu (Finset.sum_congr rfl fun k _ => ?_))
  rw [xBlk_apply, wCol_apply]

/-- Rows computed here and rows received are the same function of the device they come from. -/
theorem rowVal_apply (c e : Dev nD) (r : Fin 512) (j : Fin 256) :
    rowVal m c e (ix2 r j) = silu (∑ k : Fin 4096, xOf m e (ix2 r k) * wOf m e (ix2 k (colNo c j))) := by
  unfold rowVal
  split
  · next h => subst h; exact ownRow_apply m _ r j
  · exact gotRow_apply m e c r j

end Cert.AllToAll

end
-- ==== Proof.Equation.lean ====
/-
# The kernel against the reference

Device `c`'s result is its column block of the reference's result.
-/
module

public import proofs.«01_k».proof.Defs
public import proofs.«01_k».proof.Proof.Value
public import proofs.«01_k».proof.Proof.Gen.ReferenceIdeal.Run

@[expose] public section

noncomputable section

namespace Cert.AllToAll

open Cert.KernelIdeal Cert.KernelIdeal.Gen
open Idealize.ShloMosaic
open Idealize.ShloMosaic.TcCoe
open Idealize.ShloMosaic.ValueIdx
open scoped BigOperators

instance preFacts : Cert.Pre_clip_idle_KernelIdeal.Facts where
  bcast_S_S512x2048 := by decide
  dot_S512x4096_S4096x2048_S512x2048_1_0_0_1_n_n_wf := by decide
instance preFactsRef : Cert.Pre_clip_idle_ReferenceIdeal.Facts where
  bcast_S_S4096x2048 := by decide
  dot_S4096x4096_S4096x2048_S4096x2048_1_0_0_1_n_n_wf := by decide

variable (m : (ℓ : Loc nD τ sig) → Buf (Elt Ideal) ℓ)

theorem le_of_cmp {a b : EReal} (h : Ideal.cmp .ole a b = 1#1) : a ≤ b := by
  by_contra hn
  have h0 : Ideal.cmp .ole a b = 0#1 := congrArg BitVec.ofBool (decide_eq_false hn)
  rw [h0] at h
  exact absurd h (by decide)

/-- The precondition at one entry: the clip leaves the product alone. -/
theorem clip_idle_apply (h : Cert.Pre_KernelIdeal_clip_idle_KernelIdeal m) (e : Dev nD) (r : Fin 512) (l : Fin 2048) :
    max (∑ k : Fin 4096, xOf m e (ix2 r k) * wOf m e (ix2 k l)) (-(∑ k : Fin 4096, xOf m e (ix2 r k) * wOf m e (ix2 k l)))
      ≤ Ideal.ofBits .f32 0x42700000#32 := by
  have hd : Host.dotGeneral (F := Ideal) Cert.Pre_clip_idle_KernelIdeal.dot_S512x4096_S4096x2048_S512x2048_1_0_0_1_n_n none (xOf m e) (wOf m e) (ix2 r l)
      = ∑ k : Fin 4096, xOf m e (ix2 r k) * wOf m e (ix2 k l) :=
    (Ideal.matmul_plain_apply (M := 512) (K := 4096) (N := 2048) (φ₁ := .f32) (φ₂ := .f32) none (xOf m e) (wOf m e) (fun _ => 0) r l).trans (zero_add _)
  have hi := congrFun (h e) (ix2 r l)
  have hc : Ideal.cmp .ole (max (Host.dotGeneral (F := Ideal) Cert.Pre_clip_idle_KernelIdeal.dot_S512x4096_S4096x2048_S512x2048_1_0_0_1_n_n none (xOf m e) (wOf m e) (ix2 r l))
      (-(Host.dotGeneral (F := Ideal) Cert.Pre_clip_idle_KernelIdeal.dot_S512x4096_S4096x2048_S512x2048_1_0_0_1_n_n none (xOf m e) (wOf m e) (ix2 r l))))
      (Ideal.ofBits .f32 0x42700000#32) = 1#1 := hi
  rw [hd] at hc
  exact le_of_cmp hc

variable (X : FVec Ideal ⟨2, ![4096, 4096]⟩ .f32) (W : FVec Ideal ⟨2, ![4096, 2048]⟩ .f32)

/-- The reference's result, as the composition of its operations. -/
abbrev refOf : FVec Ideal ⟨2, ![4096, 2048]⟩ .f32 :=
  let y : FVec Ideal ⟨2, ![4096, 2048]⟩ .f32 := Host.dotGeneral Cert.ReferenceIdeal.dot_S4096x4096_S4096x2048_S4096x2048_1_0_0_1_n_n none X W
  let cst (b : BitVec 32) : FVec Ideal ⟨2, ![4096, 2048]⟩ .f32 := broadcastInDim Cert.ReferenceIdeal.S4096x2048 ![] Cert.ReferenceIdeal.Gen.bcast_S_S4096x2048 (constant Cert.ReferenceIdeal.S_ .f32 b)
  Host.divf y (addf (cst 0x3F800000#32) (Host.exp (Host.negf (minimumf (cst 0x42700000#32) (maximumf (cst 0xC2700000#32) y)))))

theorem refOf_apply (r : Fin 4096) (l : Fin 2048) : refOf X W (ix2 r l) = clippedSilu (∑ k : Fin 4096, X (ix2 r k) * W (ix2 k l)) :=
  congrArg clippedSilu ((Ideal.matmul_plain_apply (M := 4096) (K := 4096) (N := 2048) (φ₁ := .f32) (φ₂ := .f32) none X W (fun _ => 0) r l).trans (zero_add _))

/-- Device `c`'s result is column block `c` of the reference's. -/
theorem result_eq (hpre : Cert.Pre_KernelIdeal_clip_idle_KernelIdeal m)
    (hx : ∀ e : Dev nD, xOf m e = Layout.block ⟨2, ![512, 4096]⟩ ⟨2, ![4096, 4096]⟩ 0 8 e X) (hw : ∀ e : Dev nD, wOf m e = W) (c : Dev nD) :
    result m c = Layout.block ⟨2, ![4096, 256]⟩ ⟨2, ![4096, 2048]⟩ 1 8 c (refOf X W) := by
  funext i
  obtain ⟨r, j, rfl⟩ : ∃ (r : Fin 4096) (j : Fin 256), i = ix2 r j := ⟨i 0, i 1, eq_ix2 i⟩
  have hcol (h : Layout.Tiles ⟨2, ![4096, 256]⟩ ⟨2, ![4096, 2048]⟩ 1 8) : h.idx c (ix2 r j) = ix2 r (colNo c j) :=
    Shape.idx_ext₂ rfl (by show c.val * 256 + j.val = 256 * c.val + j.val; omega)
  rw [Layout.block_apply, hcol, refOf_apply]
  have hlt : r.val / 512 < 8 := by have := r.isLt; omega
  have hr : rowIx (ix2 r j) = ix2 ⟨r.val % 512, Nat.mod_lt _ (by decide)⟩ j := Shape.idx_ext₂ rfl rfl
  have hsum : (∑ k : Fin 4096, xOf m (rowNo (ix2 r j)) (ix2 ⟨r.val % 512, Nat.mod_lt _ (by decide)⟩ k) * wOf m (rowNo (ix2 r j)) (ix2 k (colNo c j)))
      = ∑ k : Fin 4096, X (ix2 r k) * W (ix2 k (colNo c j)) := Finset.sum_congr rfl fun k _ => by
    rw [hw, hx, Layout.block_apply]
    congr 2
    exact Shape.idx_ext₂ (by show r.val / 512 * 512 + r.val % 512 = r.val; omega) rfl
  show rowVal m c (rowNo (ix2 r j)) (rowIx (ix2 r j)) = _
  rw [hr, rowVal_apply, ← hsum]
  exact (clippedSilu_eq (clip_idle_apply m hpre _ _ _)).symm

end Cert.AllToAll

end
-- ==== Proof.lean ====
/-
# The claims

The kernel leaves its arguments and its semaphores as it found them, at the machine's floats and over the extended
reals; so does the reference; and over the extended reals each device's result is its column block of the reference's,
where the clip of the reference leaves the product alone.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel at any floats. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.AllToAll.run_main (F := F) m g)

/-- The two printed programs are one text: their kernels' body tables agree, at the one label there is. -/
theorem bodies_eq {F : FTy → Type} [FloatOps F] :
    Cert.KernelIdeal.defs₀ (F := F) = Cert.Kernel.defs₀ (F := F) := by
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl

/-- So do the tables of the whole programs. -/
theorem defs_eq {F : FTy → Type} [FloatOps F] : Cert.KernelIdeal.defs (F := F) = Cert.Kernel.defs (F := F) :=
  congrArg (Pipeline.defs (Cert.Kernel.pcfgs (F := F))) bodies_eq

/-- The kernel at the machine's floats, through that equality. -/
theorem frame_kernel : Cert.quiescent_Kernel := fun m g _ =>
  (congrArg (fun D => θ_run D (onTc (τ := Cert.Kernel.τ) (Cert.Kernel.main (F := Bits))) ⟨m, fun _ => 0, g⟩ _) defs_eq).mp (frame_any (F := Bits) m g)

/-- The reference. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- Each device's result is its column block of the reference's. -/
theorem algebraic : Cert.algebraic_KernelIdeal_ReferenceIdeal_pre_clip_idle_KernelIdeal := fun m g m' g' hpre hargs =>
  ⟨Cert.AllToAll.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
        ⟨(h.1 c).2.2.trans (Cert.AllToAll.result_eq m _ _ hpre (fun e => (hargs e).1) (fun e => (hargs e).2) c), (h.1 c).1, (h.1 c).2.1⟩)
      (Cert.AllToAll.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.AllToAll.preFacts, Cert.AllToAll.preFactsRef,
    frame_kernel, fun m g _ => frame_any (F := Ideal) m g, fun m g _ => frame_any (F := Ideal) m g, fun m g _ => frame_reference m g, fun m g _ => frame_reference m g, trivial, algebraic⟩

end Cert.Proof

end
